-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S1024x1024 : Shape := ⟨2, ![1024, 1024]⟩
abbrev S32x1024 : Shape := ⟨2, ![32, 1024]⟩
abbrev S4x8x32x32 : Shape := ⟨4, ![4, 8, 32, 32]⟩
abbrev S4 : Shape := ⟨1, ![4]⟩
abbrev S8 : Shape := ⟨1, ![8]⟩
abbrev S_ : Shape := ⟨0, ![]⟩
abbrev S32x4x8x32 : Shape := ⟨4, ![32, 4, 8, 32]⟩
abbrev S1 : Shape := ⟨1, ![1]⟩
abbrev S1x8x32x32 : Shape := ⟨4, ![1, 8, 32, 32]⟩
abbrev S4x1x32x32 : Shape := ⟨4, ![4, 1, 32, 32]⟩

abbrev nBuf : Space → Nat
  | .hbm => 3
  | .vmem => 6
  | .smem => 0
  | _ => 0

abbrev bufTy : (tb : Table) → Fin (tcTables nBuf tb) → BufTy
  | .hbm, ⟨0, _⟩ => ⟨S1024x32, .f32⟩
  | .hbm, ⟨1, _⟩ => ⟨S1024x1024, .f32⟩
  | .hbm, ⟨2, _⟩ => ⟨S32x1024, .bf16⟩
  | .local _ .vmem, ⟨0, _⟩ => ⟨S4x8x32x32, .bf16⟩
  | .local _ .vmem, ⟨1, _⟩ => ⟨S4x8x32x32, .bf16⟩
  | .local _ .vmem, ⟨2, _⟩ => ⟨S4x8x32x32, .bf16⟩
  | .local _ .vmem, ⟨3, _⟩ => ⟨S1024x1024, .f32⟩
  | .local _ .vmem, ⟨4, _⟩ => ⟨S1024x32, .f32⟩
  | .local _ .vmem, ⟨5, _⟩ => ⟨S32x1024, .bf16⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 2 27 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_6 : BitVec 32 := 1#32
  let v22 : BitVec 32 := Scalar.addi v19 c1_i32_6
  let c4_i32 : BitVec 32 := 4#32
  let c0_i32_7 : BitVec 32 := 0#32
  let v23 : BitVec 1 := Scalar.cmpi .eq c4_i32 c0_i32_7
  let c1_i32_8 : BitVec 32 := 1#32
  let v24 : BitVec 32 := Scalar.select v23 c1_i32_8 c4_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c8_i32_12 : BitVec 32 := 8#32
  let v33 : BitVec 32 := Scalar.muli v32 c8_i32_12
  let c8_i32_5 : BitVec 32 := 8#32
  let v20 : BitVec 32 := Scalar.remsi v2 c8_i32_5
  let v34 : BitVec 32 := Scalar.addi v33 v20
  let c1_i32_14 : BitVec 32 := 1#32
  let v35 : BitVec 32 := Scalar.muli v34 c1_i32_14
  let v36 : BitVec 32 := Scalar.addi c0_i32_15 v35
  v36.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v37 : BitVec 32 := Scalar.addi v19 c2_i32
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c8_i32_22 : BitVec 32 := 8#32
  let v48 : BitVec 32 := Scalar.muli v47 c8_i32_22
  let c8_i32_5 : BitVec 32 := 8#32
  let v20 : BitVec 32 := Scalar.remsi v2 c8_i32_5
  let v49 : BitVec 32 := Scalar.addi v48 v20
  let c1_i32_24 : BitVec 32 := 1#32
  let v50 : BitVec 32 := Scalar.muli v49 c1_i32_24
  let v51 : BitVec 32 := Scalar.addi c0_i32_25 v50
  v51.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v52 : BitVec 32 := Scalar.addi v19 c3_i32
  let c4_i32_26 : BitVec 32 := 4#32
  let c0_i32_27 : BitVec 32 := 0#32
  let v53 : BitVec 1 := Scalar.cmpi .eq c4_i32_26 c0_i32_27
  let c1_i32_28 : BitVec 32 := 1#32
  let v54 : BitVec 32 := Scalar.select v53 c1_i32_28 c4_i32_26
  let v55 : BitVec 32 := Scalar.remsi v52 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c8_i32_32 : BitVec 32 := 8#32
  let v63 : BitVec 32 := Scalar.muli v62 c8_i32_32
  let c8_i32_5 : BitVec 32 := 8#32
  let v20 : BitVec 32 := Scalar.remsi v2 c8_i32_5
  let v64 : BitVec 32 := Scalar.addi v63 v20
  let c1_i32_34 : BitVec 32 := 1#32
  let v65 : BitVec 32 := Scalar.muli v64 c1_i32_34
  let v66 : BitVec 32 := Scalar.addi c0_i32_35 v65
  v66.toNat
def k0_off1 (d0 : Dev nD) (c1_i32_42 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.addi v19 c1_i32_42
  let c4_i32_43 : BitVec 32 := 4#32
  let c0_i32_44 : BitVec 32 := 0#32
  let v76 : BitVec 1 := Scalar.cmpi .eq c4_i32_43 c0_i32_44
  let c1_i32_45 : BitVec 32 := 1#32
  let v77 : BitVec 32 := Scalar.select v76 c1_i32_45 c4_i32_43
  let v78 : BitVec 32 := Scalar.remsi v75 v77
  let c0_i32_47 : BitVec 32 := 0#32
  let v80 : BitVec 1 := Scalar.cmpi .slt v78 c0_i32_47
  let c0_i32_48 : BitVec 32 := 0#32
  let v81 : BitVec 1 := Scalar.cmpi .slt v77 c0_i32_48
  let v82 : BitVec 1 := Scalar.xori v80 v81
  let c0_i32_46 : BitVec 32 := 0#32
  let v79 : BitVec 1 := Scalar.cmpi .ne v78 c0_i32_46
  let v83 : BitVec 1 := Scalar.andi v82 v79
  let v84 : BitVec 32 := Scalar.addi v78 v77
  let v85 : BitVec 32 := Scalar.select v83 v84 v78
  ![v85.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off3 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_52 : BitVec 32 := 0#32
  let c0_i32_53 : BitVec 32 := 0#32
  let c0_i32_54 : BitVec 32 := 0#32
  ![v19.toNat, 0, 0, 0]
def k0_off4 (d0 : Dev nD) (c1_i32_42 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.addi v19 c1_i32_42
  let c4_i32_43 : BitVec 32 := 4#32
  let c0_i32_44 : BitVec 32 := 0#32
  let v76 : BitVec 1 := Scalar.cmpi .eq c4_i32_43 c0_i32_44
  let c1_i32_45 : BitVec 32 := 1#32
  let v77 : BitVec 32 := Scalar.select v76 c1_i32_45 c4_i32_43
  let v78 : BitVec 32 := Scalar.remsi v75 v77
  let c0_i32_47 : BitVec 32 := 0#32
  let v80 : BitVec 1 := Scalar.cmpi .slt v78 c0_i32_47
  let c0_i32_48 : BitVec 32 := 0#32
  let v81 : BitVec 1 := Scalar.cmpi .slt v77 c0_i32_48
  let v82 : BitVec 1 := Scalar.xori v80 v81
  let c0_i32_46 : BitVec 32 := 0#32
  let v79 : BitVec 1 := Scalar.cmpi .ne v78 c0_i32_46
  let v83 : BitVec 1 := Scalar.andi v82 v79
  let v84 : BitVec 32 := Scalar.addi v78 v77
  let v85 : BitVec 32 := Scalar.select v83 v84 v78
  let c0_i32_55 : BitVec 32 := 0#32
  let c0_i32_56 : BitVec 32 := 0#32
  let c0_i32_57 : BitVec 32 := 0#32
  ![v85.toNat, 0, 0, 0]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v75 : BitVec 32 := Scalar.addi v19 c1_i32_42
  let c4_i32_43 : BitVec 32 := 4#32
  let c0_i32_44 : BitVec 32 := 0#32
  let v76 : BitVec 1 := Scalar.cmpi .eq c4_i32_43 c0_i32_44
  let c1_i32_45 : BitVec 32 := 1#32
  let v77 : BitVec 32 := Scalar.select v76 c1_i32_45 c4_i32_43
  let v78 : BitVec 32 := Scalar.remsi v75 v77
  let c0_i32_47 : BitVec 32 := 0#32
  let v80 : BitVec 1 := Scalar.cmpi .slt v78 c0_i32_47
  let c0_i32_48 : BitVec 32 := 0#32
  let v81 : BitVec 1 := Scalar.cmpi .slt v77 c0_i32_48
  let v82 : BitVec 1 := Scalar.xori v80 v81
  let c0_i32_46 : BitVec 32 := 0#32
  let v79 : BitVec 1 := Scalar.cmpi .ne v78 c0_i32_46
  let v83 : BitVec 1 := Scalar.andi v82 v79
  let v84 : BitVec 32 := Scalar.addi v78 v77
  let v85 : BitVec 32 := Scalar.select v83 v84 v78
  let c8_i32_49 : BitVec 32 := 8#32
  let v86 : BitVec 32 := Scalar.muli v85 c8_i32_49
  let c8_i32_5 : BitVec 32 := 8#32
  let v20 : BitVec 32 := Scalar.remsi v2 c8_i32_5
  let v87 : BitVec 32 := Scalar.addi v86 v20
  let c1_i32_50 : BitVec 32 := 1#32
  let v88 : BitVec 32 := Scalar.muli v87 c1_i32_50
  let v89 : BitVec 32 := Scalar.addi c0_i32_51 v88
  v89.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_58 : BitVec 32 := 2#32
  let v96 : BitVec 32 := Scalar.addi v19 c2_i32_58
  let c4_i32_59 : BitVec 32 := 4#32
  let c0_i32_60 : BitVec 32 := 0#32
  let v97 : BitVec 1 := Scalar.cmpi .eq c4_i32_59 c0_i32_60
  let c1_i32_61 : BitVec 32 := 1#32
  let v98 : BitVec 32 := Scalar.select v97 c1_i32_61 c4_i32_59
  let v99 : BitVec 32 := Scalar.remsi v96 v98
  let c0_i32_63 : BitVec 32 := 0#32
  let v101 : BitVec 1 := Scalar.cmpi .slt v99 c0_i32_63
  let c0_i32_64 : BitVec 32 := 0#32
  let v102 : BitVec 1 := Scalar.cmpi .slt v98 c0_i32_64
  let v103 : BitVec 1 := Scalar.xori v101 v102
  let c0_i32_62 : BitVec 32 := 0#32
  let v100 : BitVec 1 := Scalar.cmpi .ne v99 c0_i32_62
  let v104 : BitVec 1 := Scalar.andi v103 v100
  let v105 : BitVec 32 := Scalar.addi v99 v98
  let v106 : BitVec 32 := Scalar.select v104 v105 v99
  let c8_i32_65 : BitVec 32 := 8#32
  let v107 : BitVec 32 := Scalar.muli v106 c8_i32_65
  let c8_i32_5 : BitVec 32 := 8#32
  let v20 : BitVec 32 := Scalar.remsi v2 c8_i32_5
  let v108 : BitVec 32 := Scalar.addi v107 v20
  let c1_i32_66 : BitVec 32 := 1#32
  let v109 : BitVec 32 := Scalar.muli v108 c1_i32_66
  let v110 : BitVec 32 := Scalar.addi c0_i32_67 v109
  v110.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_74 : BitVec 32 := 3#32
  let v117 : BitVec 32 := Scalar.addi v19 c3_i32_74
  let c4_i32_75 : BitVec 32 := 4#32
  let c0_i32_76 : BitVec 32 := 0#32
  let v118 : BitVec 1 := Scalar.cmpi .eq c4_i32_75 c0_i32_76
  let c1_i32_77 : BitVec 32 := 1#32
  let v119 : BitVec 32 := Scalar.select v118 c1_i32_77 c4_i32_75
  let v120 : BitVec 32 := Scalar.remsi v117 v119
  let c0_i32_79 : BitVec 32 := 0#32
  let v122 : BitVec 1 := Scalar.cmpi .slt v120 c0_i32_79
  let c0_i32_80 : BitVec 32 := 0#32
  let v123 : BitVec 1 := Scalar.cmpi .slt v119 c0_i32_80
  let v124 : BitVec 1 := Scalar.xori v122 v123
  let c0_i32_78 : BitVec 32 := 0#32
  let v121 : BitVec 1 := Scalar.cmpi .ne v120 c0_i32_78
  let v125 : BitVec 1 := Scalar.andi v124 v121
  let v126 : BitVec 32 := Scalar.addi v120 v119
  let v127 : BitVec 32 := Scalar.select v125 v126 v120
  let c8_i32_81 : BitVec 32 := 8#32
  let v128 : BitVec 32 := Scalar.muli v127 c8_i32_81
  let c8_i32_5 : BitVec 32 := 8#32
  let v20 : BitVec 32 := Scalar.remsi v2 c8_i32_5
  let v129 : BitVec 32 := Scalar.addi v128 v20
  let c1_i32_82 : BitVec 32 := 1#32
  let v130 : BitVec 32 := Scalar.muli v129 c1_i32_82
  let v131 : BitVec 32 := Scalar.addi c0_i32_83 v130
  v131.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_97 : BitVec 32 := 8#32
  let v149 : BitVec 32 := Scalar.muli v19 c8_i32_97
  let c8_i32_5 : BitVec 32 := 8#32
  let v20 : BitVec 32 := Scalar.remsi v2 c8_i32_5
  let c1_i32_90 : BitVec 32 := 1#32
  let v138 : BitVec 32 := Scalar.addi v20 c1_i32_90
  let c8_i32_91 : BitVec 32 := 8#32
  let c0_i32_92 : BitVec 32 := 0#32
  let v139 : BitVec 1 := Scalar.cmpi .eq c8_i32_91 c0_i32_92
  let c1_i32_93 : BitVec 32 := 1#32
  let v140 : BitVec 32 := Scalar.select v139 c1_i32_93 c8_i32_91
  let v141 : BitVec 32 := Scalar.remsi v138 v140
  let c0_i32_95 : BitVec 32 := 0#32
  let v143 : BitVec 1 := Scalar.cmpi .slt v141 c0_i32_95
  let c0_i32_96 : BitVec 32 := 0#32
  let v144 : BitVec 1 := Scalar.cmpi .slt v140 c0_i32_96
  let v145 : BitVec 1 := Scalar.xori v143 v144
  let c0_i32_94 : BitVec 32 := 0#32
  let v142 : BitVec 1 := Scalar.cmpi .ne v141 c0_i32_94
  let v146 : BitVec 1 := Scalar.andi v145 v142
  let v147 : BitVec 32 := Scalar.addi v141 v140
  let v148 : BitVec 32 := Scalar.select v146 v147 v141
  let v150 : BitVec 32 := Scalar.addi v149 v148
  let c1_i32_99 : BitVec 32 := 1#32
  let v151 : BitVec 32 := Scalar.muli v150 c1_i32_99
  let v152 : BitVec 32 := Scalar.addi c0_i32_100 v151
  v152.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_108 : BitVec 32 := 8#32
  let v164 : BitVec 32 := Scalar.muli v19 c8_i32_108
  let c8_i32_5 : BitVec 32 := 8#32
  let v20 : BitVec 32 := Scalar.remsi v2 c8_i32_5
  let c2_i32_101 : BitVec 32 := 2#32
  let v153 : BitVec 32 := Scalar.addi v20 c2_i32_101
  let c8_i32_102 : BitVec 32 := 8#32
  let c0_i32_103 : BitVec 32 := 0#32
  let v154 : BitVec 1 := Scalar.cmpi .eq c8_i32_102 c0_i32_103
  let c1_i32_104 : BitVec 32 := 1#32
  let v155 : BitVec 32 := Scalar.select v154 c1_i32_104 c8_i32_102
  let v156 : BitVec 32 := Scalar.remsi v153 v155
  let c0_i32_106 : BitVec 32 := 0#32
  let v158 : BitVec 1 := Scalar.cmpi .slt v156 c0_i32_106
  let c0_i32_107 : BitVec 32 := 0#32
  let v159 : BitVec 1 := Scalar.cmpi .slt v155 c0_i32_107
  let v160 : BitVec 1 := Scalar.xori v158 v159
  let c0_i32_105 : BitVec 32 := 0#32
  let v157 : BitVec 1 := Scalar.cmpi .ne v156 c0_i32_105
  let v161 : BitVec 1 := Scalar.andi v160 v157
  let v162 : BitVec 32 := Scalar.addi v156 v155
  let v163 : BitVec 32 := Scalar.select v161 v162 v156
  let v165 : BitVec 32 := Scalar.addi v164 v163
  let c1_i32_110 : BitVec 32 := 1#32
  let v166 : BitVec 32 := Scalar.muli v165 c1_i32_110
  let v167 : BitVec 32 := Scalar.addi c0_i32_111 v166
  v167.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_119 : BitVec 32 := 8#32
  let v179 : BitVec 32 := Scalar.muli v19 c8_i32_119
  let c8_i32_5 : BitVec 32 := 8#32
  let v20 : BitVec 32 := Scalar.remsi v2 c8_i32_5
  let c3_i32_112 : BitVec 32 := 3#32
  let v168 : BitVec 32 := Scalar.addi v20 c3_i32_112
  let c8_i32_113 : BitVec 32 := 8#32
  let c0_i32_114 : BitVec 32 := 0#32
  let v169 : BitVec 1 := Scalar.cmpi .eq c8_i32_113 c0_i32_114
  let c1_i32_115 : BitVec 32 := 1#32
  let v170 : BitVec 32 := Scalar.select v169 c1_i32_115 c8_i32_113
  let v171 : BitVec 32 := Scalar.remsi v168 v170
  let c0_i32_117 : BitVec 32 := 0#32
  let v173 : BitVec 1 := Scalar.cmpi .slt v171 c0_i32_117
  let c0_i32_118 : BitVec 32 := 0#32
  let v174 : BitVec 1 := Scalar.cmpi .slt v170 c0_i32_118
  let v175 : BitVec 1 := Scalar.xori v173 v174
  let c0_i32_116 : BitVec 32 := 0#32
  let v172 : BitVec 1 := Scalar.cmpi .ne v171 c0_i32_116
  let v176 : BitVec 1 := Scalar.andi v175 v172
  let v177 : BitVec 32 := Scalar.addi v171 v170
  let v178 : BitVec 32 := Scalar.select v176 v177 v171
  let v180 : BitVec 32 := Scalar.addi v179 v178
  let c1_i32_121 : BitVec 32 := 1#32
  let v181 : BitVec 32 := Scalar.muli v180 c1_i32_121
  let v182 : BitVec 32 := Scalar.addi c0_i32_122 v181
  v182.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_130 : BitVec 32 := 8#32
  let v194 : BitVec 32 := Scalar.muli v19 c8_i32_130
  let c8_i32_5 : BitVec 32 := 8#32
  let v20 : BitVec 32 := Scalar.remsi v2 c8_i32_5
  let c4_i32_123 : BitVec 32 := 4#32
  let v183 : BitVec 32 := Scalar.addi v20 c4_i32_123
  let c8_i32_124 : BitVec 32 := 8#32
  let c0_i32_125 : BitVec 32 := 0#32
  let v184 : BitVec 1 := Scalar.cmpi .eq c8_i32_124 c0_i32_125
  let c1_i32_126 : BitVec 32 := 1#32
  let v185 : BitVec 32 := Scalar.select v184 c1_i32_126 c8_i32_124
  let v186 : BitVec 32 := Scalar.remsi v183 v185
  let c0_i32_128 : BitVec 32 := 0#32
  let v188 : BitVec 1 := Scalar.cmpi .slt v186 c0_i32_128
  let c0_i32_129 : BitVec 32 := 0#32
  let v189 : BitVec 1 := Scalar.cmpi .slt v185 c0_i32_129
  let v190 : BitVec 1 := Scalar.xori v188 v189
  let c0_i32_127 : BitVec 32 := 0#32
  let v187 : BitVec 1 := Scalar.cmpi .ne v186 c0_i32_127
  let v191 : BitVec 1 := Scalar.andi v190 v187
  let v192 : BitVec 32 := Scalar.addi v186 v185
  let v193 : BitVec 32 := Scalar.select v191 v192 v186
  let v195 : BitVec 32 := Scalar.addi v194 v193
  let c1_i32_132 : BitVec 32 := 1#32
  let v196 : BitVec 32 := Scalar.muli v195 c1_i32_132
  let v197 : BitVec 32 := Scalar.addi c0_i32_133 v196
  v197.toNat
def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_140 : BitVec 32 := 8#32
  let v209 : BitVec 32 := Scalar.muli v19 c8_i32_140
  let c8_i32_5 : BitVec 32 := 8#32
  let v20 : BitVec 32 := Scalar.remsi v2 c8_i32_5
  let c5_i32 : BitVec 32 := 5#32
  let v198 : BitVec 32 := Scalar.addi v20 c5_i32
  let c8_i32_134 : BitVec 32 := 8#32
  let c0_i32_135 : BitVec 32 := 0#32
  let v199 : BitVec 1 := Scalar.cmpi .eq c8_i32_134 c0_i32_135
  let c1_i32_136 : BitVec 32 := 1#32
  let v200 : BitVec 32 := Scalar.select v199 c1_i32_136 c8_i32_134
  let v201 : BitVec 32 := Scalar.remsi v198 v200
  let c0_i32_138 : BitVec 32 := 0#32
  let v203 : BitVec 1 := Scalar.cmpi .slt v201 c0_i32_138
  let c0_i32_139 : BitVec 32 := 0#32
  let v204 : BitVec 1 := Scalar.cmpi .slt v200 c0_i32_139
  let v205 : BitVec 1 := Scalar.xori v203 v204
  let c0_i32_137 : BitVec 32 := 0#32
  let v202 : BitVec 1 := Scalar.cmpi .ne v201 c0_i32_137
  let v206 : BitVec 1 := Scalar.andi v205 v202
  let v207 : BitVec 32 := Scalar.addi v201 v200
  let v208 : BitVec 32 := Scalar.select v206 v207 v201
  let v210 : BitVec 32 := Scalar.addi v209 v208
  let c1_i32_142 : BitVec 32 := 1#32
  let v211 : BitVec 32 := Scalar.muli v210 c1_i32_142
  let v212 : BitVec 32 := Scalar.addi c0_i32_143 v211
  v212.toNat
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_150 : BitVec 32 := 8#32
  let v224 : BitVec 32 := Scalar.muli v19 c8_i32_150
  let c8_i32_5 : BitVec 32 := 8#32
  let v20 : BitVec 32 := Scalar.remsi v2 c8_i32_5
  let c6_i32 : BitVec 32 := 6#32
  let v213 : BitVec 32 := Scalar.addi v20 c6_i32
  let c8_i32_144 : BitVec 32 := 8#32
  let c0_i32_145 : BitVec 32 := 0#32
  let v214 : BitVec 1 := Scalar.cmpi .eq c8_i32_144 c0_i32_145
  let c1_i32_146 : BitVec 32 := 1#32
  let v215 : BitVec 32 := Scalar.select v214 c1_i32_146 c8_i32_144
  let v216 : BitVec 32 := Scalar.remsi v213 v215
  let c0_i32_148 : BitVec 32 := 0#32
  let v218 : BitVec 1 := Scalar.cmpi .slt v216 c0_i32_148
  let c0_i32_149 : BitVec 32 := 0#32
  let v219 : BitVec 1 := Scalar.cmpi .slt v215 c0_i32_149
  let v220 : BitVec 1 := Scalar.xori v218 v219
  let c0_i32_147 : BitVec 32 := 0#32
  let v217 : BitVec 1 := Scalar.cmpi .ne v216 c0_i32_147
  let v221 : BitVec 1 := Scalar.andi v220 v217
  let v222 : BitVec 32 := Scalar.addi v216 v215
  let v223 : BitVec 32 := Scalar.select v221 v222 v216
  let v225 : BitVec 32 := Scalar.addi v224 v223
  let c1_i32_152 : BitVec 32 := 1#32
  let v226 : BitVec 32 := Scalar.muli v225 c1_i32_152
  let v227 : BitVec 32 := Scalar.addi c0_i32_153 v226
  v227.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_160 : BitVec 32 := 8#32
  let v239 : BitVec 32 := Scalar.muli v19 c8_i32_160
  let c8_i32_5 : BitVec 32 := 8#32
  let v20 : BitVec 32 := Scalar.remsi v2 c8_i32_5
  let c7_i32 : BitVec 32 := 7#32
  let v228 : BitVec 32 := Scalar.addi v20 c7_i32
  let c8_i32_154 : BitVec 32 := 8#32
  let c0_i32_155 : BitVec 32 := 0#32
  let v229 : BitVec 1 := Scalar.cmpi .eq c8_i32_154 c0_i32_155
  let c1_i32_156 : BitVec 32 := 1#32
  let v230 : BitVec 32 := Scalar.select v229 c1_i32_156 c8_i32_154
  let v231 : BitVec 32 := Scalar.remsi v228 v230
  let c0_i32_158 : BitVec 32 := 0#32
  let v233 : BitVec 1 := Scalar.cmpi .slt v231 c0_i32_158
  let c0_i32_159 : BitVec 32 := 0#32
  let v234 : BitVec 1 := Scalar.cmpi .slt v230 c0_i32_159
  let v235 : BitVec 1 := Scalar.xori v233 v234
  let c0_i32_157 : BitVec 32 := 0#32
  let v232 : BitVec 1 := Scalar.cmpi .ne v231 c0_i32_157
  let v236 : BitVec 1 := Scalar.andi v235 v232
  let v237 : BitVec 32 := Scalar.addi v231 v230
  let v238 : BitVec 32 := Scalar.select v236 v237 v231
  let v240 : BitVec 32 := Scalar.addi v239 v238
  let c1_i32_162 : BitVec 32 := 1#32
  let v241 : BitVec 32 := Scalar.muli v240 c1_i32_162
  let v242 : BitVec 32 := Scalar.addi c0_i32_163 v241
  v242.toNat
def k0_off5 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v243 : Index := Scalar.indexCast v19
  let c0_164 : Index := 0#32
  let c0_165 : Index := 0#32
  let c0_166 : Index := 0#32
  ![v243.toNat, 0, 0, 0]
def k0_off6 (d0 : Dev nD) (c1_i32_220 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v306 : BitVec 32 := Scalar.addi v20 c1_i32_220
  let c8_i32_221 : BitVec 32 := 8#32
  let c0_i32_222 : BitVec 32 := 0#32
  let v307 : BitVec 1 := Scalar.cmpi .eq c8_i32_221 c0_i32_222
  let c1_i32_223 : BitVec 32 := 1#32
  let v308 : BitVec 32 := Scalar.select v307 c1_i32_223 c8_i32_221
  let v309 : BitVec 32 := Scalar.remsi v306 v308
  let c0_i32_225 : BitVec 32 := 0#32
  let v311 : BitVec 1 := Scalar.cmpi .slt v309 c0_i32_225
  let c0_i32_226 : BitVec 32 := 0#32
  let v312 : BitVec 1 := Scalar.cmpi .slt v308 c0_i32_226
  let v313 : BitVec 1 := Scalar.xori v311 v312
  let c0_i32_224 : BitVec 32 := 0#32
  let v310 : BitVec 1 := Scalar.cmpi .ne v309 c0_i32_224
  let v314 : BitVec 1 := Scalar.andi v313 v310
  let v315 : BitVec 32 := Scalar.addi v309 v308
  let v316 : BitVec 32 := Scalar.select v314 v315 v309
  ![v316.toNat]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off8 (d0 : Dev nD) : Fin 4 → Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_231 : BitVec 32 := 0#32
  let c0_i32_232 : BitVec 32 := 0#32
  ![0, v20.toNat, 0, 0]
def k0_off9 (d0 : Dev nD) (c1_i32_220 : BitVec 32) : Fin 4 → Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v306 : BitVec 32 := Scalar.addi v20 c1_i32_220
  let c8_i32_221 : BitVec 32 := 8#32
  let c0_i32_222 : BitVec 32 := 0#32
  let v307 : BitVec 1 := Scalar.cmpi .eq c8_i32_221 c0_i32_222
  let c1_i32_223 : BitVec 32 := 1#32
  let v308 : BitVec 32 := Scalar.select v307 c1_i32_223 c8_i32_221
  let v309 : BitVec 32 := Scalar.remsi v306 v308
  let c0_i32_225 : BitVec 32 := 0#32
  let v311 : BitVec 1 := Scalar.cmpi .slt v309 c0_i32_225
  let c0_i32_226 : BitVec 32 := 0#32
  let v312 : BitVec 1 := Scalar.cmpi .slt v308 c0_i32_226
  let v313 : BitVec 1 := Scalar.xori v311 v312
  let c0_i32_224 : BitVec 32 := 0#32
  let v310 : BitVec 1 := Scalar.cmpi .ne v309 c0_i32_224
  let v314 : BitVec 1 := Scalar.andi v313 v310
  let v315 : BitVec 32 := Scalar.addi v309 v308
  let v316 : BitVec 32 := Scalar.select v314 v315 v309
  let c0_i32_234 : BitVec 32 := 0#32
  let c0_i32_235 : BitVec 32 := 0#32
  ![0, v316.toNat, 0, 0]
def k0_dev14 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_227 : BitVec 32 := 8#32
  let v317 : BitVec 32 := Scalar.muli v19 c8_i32_227
  let c8_i32_5 : BitVec 32 := 8#32
  let v20 : BitVec 32 := Scalar.remsi v2 c8_i32_5
  let c1_i32_220 : BitVec 32 := 1#32
  let v306 : BitVec 32 := Scalar.addi v20 c1_i32_220
  let c8_i32_221 : BitVec 32 := 8#32
  let c0_i32_222 : BitVec 32 := 0#32
  let v307 : BitVec 1 := Scalar.cmpi .eq c8_i32_221 c0_i32_222
  let c1_i32_223 : BitVec 32 := 1#32
  let v308 : BitVec 32 := Scalar.select v307 c1_i32_223 c8_i32_221
  let v309 : BitVec 32 := Scalar.remsi v306 v308
  let c0_i32_225 : BitVec 32 := 0#32
  let v311 : BitVec 1 := Scalar.cmpi .slt v309 c0_i32_225
  let c0_i32_226 : BitVec 32 := 0#32
  let v312 : BitVec 1 := Scalar.cmpi .slt v308 c0_i32_226
  let v313 : BitVec 1 := Scalar.xori v311 v312
  let c0_i32_224 : BitVec 32 := 0#32
  let v310 : BitVec 1 := Scalar.cmpi .ne v309 c0_i32_224
  let v314 : BitVec 1 := Scalar.andi v313 v310
  let v315 : BitVec 32 := Scalar.addi v309 v308
  let v316 : BitVec 32 := Scalar.select v314 v315 v309
  let v318 : BitVec 32 := Scalar.addi v317 v316
  let c1_i32_228 : BitVec 32 := 1#32
  let v319 : BitVec 32 := Scalar.muli v318 c1_i32_228
  let v320 : BitVec 32 := Scalar.addi c0_i32_229 v319
  v320.toNat
def k0_dev15 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_243 : BitVec 32 := 8#32
  let v338 : BitVec 32 := Scalar.muli v19 c8_i32_243
  let c8_i32_5 : BitVec 32 := 8#32
  let v20 : BitVec 32 := Scalar.remsi v2 c8_i32_5
  let c2_i32_236 : BitVec 32 := 2#32
  let v327 : BitVec 32 := Scalar.addi v20 c2_i32_236
  let c8_i32_237 : BitVec 32 := 8#32
  let c0_i32_238 : BitVec 32 := 0#32
  let v328 : BitVec 1 := Scalar.cmpi .eq c8_i32_237 c0_i32_238
  let c1_i32_239 : BitVec 32 := 1#32
  let v329 : BitVec 32 := Scalar.select v328 c1_i32_239 c8_i32_237
  let v330 : BitVec 32 := Scalar.remsi v327 v329
  let c0_i32_241 : BitVec 32 := 0#32
  let v332 : BitVec 1 := Scalar.cmpi .slt v330 c0_i32_241
  let c0_i32_242 : BitVec 32 := 0#32
  let v333 : BitVec 1 := Scalar.cmpi .slt v329 c0_i32_242
  let v334 : BitVec 1 := Scalar.xori v332 v333
  let c0_i32_240 : BitVec 32 := 0#32
  let v331 : BitVec 1 := Scalar.cmpi .ne v330 c0_i32_240
  let v335 : BitVec 1 := Scalar.andi v334 v331
  let v336 : BitVec 32 := Scalar.addi v330 v329
  let v337 : BitVec 32 := Scalar.select v335 v336 v330
  let v339 : BitVec 32 := Scalar.addi v338 v337
  let c1_i32_244 : BitVec 32 := 1#32
  let v340 : BitVec 32 := Scalar.muli v339 c1_i32_244
  let v341 : BitVec 32 := Scalar.addi c0_i32_245 v340
  v341.toNat
def k0_dev16 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_259 : BitVec 32 := 8#32
  let v359 : BitVec 32 := Scalar.muli v19 c8_i32_259
  let c8_i32_5 : BitVec 32 := 8#32
  let v20 : BitVec 32 := Scalar.remsi v2 c8_i32_5
  let c3_i32_252 : BitVec 32 := 3#32
  let v348 : BitVec 32 := Scalar.addi v20 c3_i32_252
  let c8_i32_253 : BitVec 32 := 8#32
  let c0_i32_254 : BitVec 32 := 0#32
  let v349 : BitVec 1 := Scalar.cmpi .eq c8_i32_253 c0_i32_254
  let c1_i32_255 : BitVec 32 := 1#32
  let v350 : BitVec 32 := Scalar.select v349 c1_i32_255 c8_i32_253
  let v351 : BitVec 32 := Scalar.remsi v348 v350
  let c0_i32_257 : BitVec 32 := 0#32
  let v353 : BitVec 1 := Scalar.cmpi .slt v351 c0_i32_257
  let c0_i32_258 : BitVec 32 := 0#32
  let v354 : BitVec 1 := Scalar.cmpi .slt v350 c0_i32_258
  let v355 : BitVec 1 := Scalar.xori v353 v354
  let c0_i32_256 : BitVec 32 := 0#32
  let v352 : BitVec 1 := Scalar.cmpi .ne v351 c0_i32_256
  let v356 : BitVec 1 := Scalar.andi v355 v352
  let v357 : BitVec 32 := Scalar.addi v351 v350
  let v358 : BitVec 32 := Scalar.select v356 v357 v351
  let v360 : BitVec 32 := Scalar.addi v359 v358
  let c1_i32_260 : BitVec 32 := 1#32
  let v361 : BitVec 32 := Scalar.muli v360 c1_i32_260
  let v362 : BitVec 32 := Scalar.addi c0_i32_261 v361
  v362.toNat
def k0_dev17 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_275 : BitVec 32 := 8#32
  let v380 : BitVec 32 := Scalar.muli v19 c8_i32_275
  let c8_i32_5 : BitVec 32 := 8#32
  let v20 : BitVec 32 := Scalar.remsi v2 c8_i32_5
  let c4_i32_268 : BitVec 32 := 4#32
  let v369 : BitVec 32 := Scalar.addi v20 c4_i32_268
  let c8_i32_269 : BitVec 32 := 8#32
  let c0_i32_270 : BitVec 32 := 0#32
  let v370 : BitVec 1 := Scalar.cmpi .eq c8_i32_269 c0_i32_270
  let c1_i32_271 : BitVec 32 := 1#32
  let v371 : BitVec 32 := Scalar.select v370 c1_i32_271 c8_i32_269
  let v372 : BitVec 32 := Scalar.remsi v369 v371
  let c0_i32_273 : BitVec 32 := 0#32
  let v374 : BitVec 1 := Scalar.cmpi .slt v372 c0_i32_273
  let c0_i32_274 : BitVec 32 := 0#32
  let v375 : BitVec 1 := Scalar.cmpi .slt v371 c0_i32_274
  let v376 : BitVec 1 := Scalar.xori v374 v375
  let c0_i32_272 : BitVec 32 := 0#32
  let v373 : BitVec 1 := Scalar.cmpi .ne v372 c0_i32_272
  let v377 : BitVec 1 := Scalar.andi v376 v373
  let v378 : BitVec 32 := Scalar.addi v372 v371
  let v379 : BitVec 32 := Scalar.select v377 v378 v372
  let v381 : BitVec 32 := Scalar.addi v380 v379
  let c1_i32_276 : BitVec 32 := 1#32
  let v382 : BitVec 32 := Scalar.muli v381 c1_i32_276
  let v383 : BitVec 32 := Scalar.addi c0_i32_277 v382
  v383.toNat
def k0_dev18 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_291 : BitVec 32 := 8#32
  let v401 : BitVec 32 := Scalar.muli v19 c8_i32_291
  let c8_i32_5 : BitVec 32 := 8#32
  let v20 : BitVec 32 := Scalar.remsi v2 c8_i32_5
  let c5_i32_284 : BitVec 32 := 5#32
  let v390 : BitVec 32 := Scalar.addi v20 c5_i32_284
  let c8_i32_285 : BitVec 32 := 8#32
  let c0_i32_286 : BitVec 32 := 0#32
  let v391 : BitVec 1 := Scalar.cmpi .eq c8_i32_285 c0_i32_286
  let c1_i32_287 : BitVec 32 := 1#32
  let v392 : BitVec 32 := Scalar.select v391 c1_i32_287 c8_i32_285
  let v393 : BitVec 32 := Scalar.remsi v390 v392
  let c0_i32_289 : BitVec 32 := 0#32
  let v395 : BitVec 1 := Scalar.cmpi .slt v393 c0_i32_289
  let c0_i32_290 : BitVec 32 := 0#32
  let v396 : BitVec 1 := Scalar.cmpi .slt v392 c0_i32_290
  let v397 : BitVec 1 := Scalar.xori v395 v396
  let c0_i32_288 : BitVec 32 := 0#32
  let v394 : BitVec 1 := Scalar.cmpi .ne v393 c0_i32_288
  let v398 : BitVec 1 := Scalar.andi v397 v394
  let v399 : BitVec 32 := Scalar.addi v393 v392
  let v400 : BitVec 32 := Scalar.select v398 v399 v393
  let v402 : BitVec 32 := Scalar.addi v401 v400
  let c1_i32_292 : BitVec 32 := 1#32
  let v403 : BitVec 32 := Scalar.muli v402 c1_i32_292
  let v404 : BitVec 32 := Scalar.addi c0_i32_293 v403
  v404.toNat
def k0_dev19 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_307 : BitVec 32 := 8#32
  let v422 : BitVec 32 := Scalar.muli v19 c8_i32_307
  let c8_i32_5 : BitVec 32 := 8#32
  let v20 : BitVec 32 := Scalar.remsi v2 c8_i32_5
  let c6_i32_300 : BitVec 32 := 6#32
  let v411 : BitVec 32 := Scalar.addi v20 c6_i32_300
  let c8_i32_301 : BitVec 32 := 8#32
  let c0_i32_302 : BitVec 32 := 0#32
  let v412 : BitVec 1 := Scalar.cmpi .eq c8_i32_301 c0_i32_302
  let c1_i32_303 : BitVec 32 := 1#32
  let v413 : BitVec 32 := Scalar.select v412 c1_i32_303 c8_i32_301
  let v414 : BitVec 32 := Scalar.remsi v411 v413
  let c0_i32_305 : BitVec 32 := 0#32
  let v416 : BitVec 1 := Scalar.cmpi .slt v414 c0_i32_305
  let c0_i32_306 : BitVec 32 := 0#32
  let v417 : BitVec 1 := Scalar.cmpi .slt v413 c0_i32_306
  let v418 : BitVec 1 := Scalar.xori v416 v417
  let c0_i32_304 : BitVec 32 := 0#32
  let v415 : BitVec 1 := Scalar.cmpi .ne v414 c0_i32_304
  let v419 : BitVec 1 := Scalar.andi v418 v415
  let v420 : BitVec 32 := Scalar.addi v414 v413
  let v421 : BitVec 32 := Scalar.select v419 v420 v414
  let v423 : BitVec 32 := Scalar.addi v422 v421
  let c1_i32_308 : BitVec 32 := 1#32
  let v424 : BitVec 32 := Scalar.muli v423 c1_i32_308
  let v425 : BitVec 32 := Scalar.addi c0_i32_309 v424
  v425.toNat
def k0_dev20 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_323 : BitVec 32 := 8#32
  let v443 : BitVec 32 := Scalar.muli v19 c8_i32_323
  let c8_i32_5 : BitVec 32 := 8#32
  let v20 : BitVec 32 := Scalar.remsi v2 c8_i32_5
  let c7_i32_316 : BitVec 32 := 7#32
  let v432 : BitVec 32 := Scalar.addi v20 c7_i32_316
  let c8_i32_317 : BitVec 32 := 8#32
  let c0_i32_318 : BitVec 32 := 0#32
  let v433 : BitVec 1 := Scalar.cmpi .eq c8_i32_317 c0_i32_318
  let c1_i32_319 : BitVec 32 := 1#32
  let v434 : BitVec 32 := Scalar.select v433 c1_i32_319 c8_i32_317
  let v435 : BitVec 32 := Scalar.remsi v432 v434
  let c0_i32_321 : BitVec 32 := 0#32
  let v437 : BitVec 1 := Scalar.cmpi .slt v435 c0_i32_321
  let c0_i32_322 : BitVec 32 := 0#32
  let v438 : BitVec 1 := Scalar.cmpi .slt v434 c0_i32_322
  let v439 : BitVec 1 := Scalar.xori v437 v438
  let c0_i32_320 : BitVec 32 := 0#32
  let v436 : BitVec 1 := Scalar.cmpi .ne v435 c0_i32_320
  let v440 : BitVec 1 := Scalar.andi v439 v436
  let v441 : BitVec 32 := Scalar.addi v435 v434
  let v442 : BitVec 32 := Scalar.select v440 v441 v435
  let v444 : BitVec 32 := Scalar.addi v443 v442
  let c1_i32_324 : BitVec 32 := 1#32
  let v445 : BitVec 32 := Scalar.muli v444 c1_i32_324
  let v446 : BitVec 32 := Scalar.addi c0_i32_325 v445
  v446.toNat
def k0_off10 (d0 : Dev nD) : Fin 4 → Nat :=
  let c0_332 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v453 : Index := Scalar.indexCast v20
  let c0_333 : Index := 0#32
  let c0_334 : Index := 0#32
  ![0, v453.toNat, 0, 0]
-- ==== ReferenceIdeal.lean ====
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.A2aMesh.lean ====
/- The mesh of 32 devices as a 4 × 8 grid: device `c` is at `(zc c, qc c)`; its phase-A peers share `qc`, its phase-B
   peers share `zc`. The kernel's device and offset chains in these coordinates, the semaphores, and the slots of the
   three exchange buffers. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.TwoPhase

open Cert.KernelIdeal Cert.KernelIdeal.Gen
open Idealize.ShloMosaic Idealize.ShloMosaic.TcCoe
open Idealize.SL Idealize.SL.RA Idealize.SL.BI
open Idealize.SL.Sem

/-! ## Coordinates and peers -/

set_option backward.proofsInPublic true in
/-- The first coordinate of a device. -/
def zc (c : Dev nD) : Fin 4 := ⟨c.val / 8, by have := c.isLt; simp only [nD] at this; omega⟩
set_option backward.proofsInPublic true in
/-- Its second. -/
def qc (c : Dev nD) : Fin 8 := ⟨c.val % 8, Nat.mod_lt _ (by decide)⟩
set_option backward.proofsInPublic true in
/-- The device at two coordinates. -/
def mk (z : Fin 4) (q : Fin 8) : Dev nD := ⟨z.val * 8 + q.val, by have := z.isLt; have := q.isLt; simp only [nD]; omega⟩

theorem zc_mk (z : Fin 4) (q : Fin 8) : zc (mk z q) = z := by revert z q; decide
theorem qc_mk (z : Fin 4) (q : Fin 8) : qc (mk z q) = q := by revert z q; decide
theorem mk_eta (c : Dev nD) : mk (zc c) (qc c) = c := by revert c; decide

set_option backward.proofsInPublic true in
/-- The first coordinate `r + 1` further. -/
def zp (c : Dev nD) (r : Fin 3) : Fin 4 := ⟨(c.val / 8 + (r.val + 1)) % 4, Nat.mod_lt _ (by decide)⟩
set_option backward.proofsInPublic true in
/-- The second coordinate `r + 1` further. -/
def qp (c : Dev nD) (r : Fin 7) : Fin 8 := ⟨(c.val % 8 + (r.val + 1)) % 8, Nat.mod_lt _ (by decide)⟩

theorem zp_ne (c : Dev nD) (r : Fin 3) : zp c r ≠ zc c := by revert c r; decide
theorem qp_ne (c : Dev nD) (r : Fin 7) : qp c r ≠ qc c := by revert c r; decide
theorem zp_inj (c : Dev nD) : Function.Injective (zp c) := by
  intro a b; revert c a b; decide
theorem qp_inj (c : Dev nD) : Function.Injective (qp c) := by
  intro a b; revert c a b; decide +kernel

/-- The other first coordinates are the `zp`s. -/
theorem erase_zc (c : Dev nD) : (Finset.univ.erase (zc c)) = Finset.univ.map ⟨zp c, zp_inj c⟩ := by revert c; decide
theorem erase_qc (c : Dev nD) : (Finset.univ.erase (qc c)) = Finset.univ.map ⟨qp c, qp_inj c⟩ := by revert c; decide +kernel

/-- The device of `c`'s column at first coordinate `k`, paired with `c`'s own: an involution. -/
def swapA (p : Dev nD × Fin 4) : Dev nD × Fin 4 := (mk p.2 (qc p.1), zc p.1)
def swapB (p : Dev nD × Fin 8) : Dev nD × Fin 8 := (mk (zc p.1) p.2, qc p.1)
theorem swapA_swapA (p : Dev nD × Fin 4) : swapA (swapA p) = p := by
  obtain ⟨c, k⟩ := p; simp only [swapA, zc_mk, qc_mk, mk_eta]
theorem swapB_swapB (p : Dev nD × Fin 8) : swapB (swapB p) = p := by
  obtain ⟨c, k⟩ := p; simp only [swapB, zc_mk, qc_mk, mk_eta]
def swapAe : Dev nD × Fin 4 ≃ Dev nD × Fin 4 := ⟨swapA, swapA, swapA_swapA, swapA_swapA⟩
def swapBe : Dev nD × Fin 8 ≃ Dev nD × Fin 8 := ⟨swapB, swapB, swapB_swapB, swapB_swapB⟩

/-! ## The kernel's device chains -/

/-- The target of the barrier signal `r`, as the kernel computes it. -/
def dvBar (d : Dev nD) : Fin 3 → Dev nD
  | 0 => ⟨k0_dev1 d, k0_dev1_lt d⟩ | 1 => ⟨k0_dev2 d, k0_dev2_lt d⟩ | 2 => ⟨k0_dev3 d, k0_dev3_lt d⟩
def dvA (d : Dev nD) : Fin 3 → Dev nD
  | 0 => ⟨k0_dev4 d, k0_dev4_lt d⟩ | 1 => ⟨k0_dev5 d, k0_dev5_lt d⟩ | 2 => ⟨k0_dev6 d, k0_dev6_lt d⟩
def dvRdy (d : Dev nD) : Fin 7 → Dev nD
  | 0 => ⟨k0_dev7 d, k0_dev7_lt d⟩ | 1 => ⟨k0_dev8 d, k0_dev8_lt d⟩ | 2 => ⟨k0_dev9 d, k0_dev9_lt d⟩
  | 3 => ⟨k0_dev10 d, k0_dev10_lt d⟩ | 4 => ⟨k0_dev11 d, k0_dev11_lt d⟩ | 5 => ⟨k0_dev12 d, k0_dev12_lt d⟩
  | 6 => ⟨k0_dev13 d, k0_dev13_lt d⟩
def dvB (d : Dev nD) : Fin 7 → Dev nD
  | 0 => ⟨k0_dev14 d, k0_dev14_lt d⟩ | 1 => ⟨k0_dev15 d, k0_dev15_lt d⟩ | 2 => ⟨k0_dev16 d, k0_dev16_lt d⟩
  | 3 => ⟨k0_dev17 d, k0_dev17_lt d⟩ | 4 => ⟨k0_dev18 d, k0_dev18_lt d⟩ | 5 => ⟨k0_dev19 d, k0_dev19_lt d⟩
  | 6 => ⟨k0_dev20 d, k0_dev20_lt d⟩

theorem dvBar_eq (d : Dev nD) (r : Fin 3) : dvBar d r = mk (zp d r) (qc d) := by revert d r; decide +kernel
theorem dvA_eq (d : Dev nD) (r : Fin 3) : dvA d r = mk (zp d r) (qc d) := by revert d r; decide +kernel
theorem dvRdy_eq (d : Dev nD) (r : Fin 7) : dvRdy d r = mk (zc d) (qp d r) := by revert d r; decide +kernel
theorem dvB_eq (d : Dev nD) (r : Fin 7) : dvB d r = mk (zc d) (qp d r) := by revert d r; decide +kernel

/-! ## The kernel's offset chains -/

abbrev wd3 (r : Fin 3) : BitVec 32 := BitVec.ofNat 32 (1 + r.val)
abbrev wd7 (r : Fin 7) : BitVec 32 := BitVec.ofNat 32 (1 + r.val)

theorem off1_eq (d : Dev nD) (r : Fin 3) : k0_off1 d (wd3 r) = ![(zp d r).val] := by revert d r; decide +kernel
theorem off2_eq (d : Dev nD) : k0_off2 d = ![(zc d).val] := by revert d; decide +kernel
theorem off3_eq (d : Dev nD) : k0_off3 d = ![(zc d).val, 0, 0, 0] := by revert d; decide +kernel
theorem off4_eq (d : Dev nD) (r : Fin 3) : k0_off4 d (wd3 r) = ![(zp d r).val, 0, 0, 0] := by revert d r; decide +kernel
theorem off5_eq (d : Dev nD) : k0_off5 d = ![(zc d).val, 0, 0, 0] := by revert d; decide +kernel
theorem off6_eq (d : Dev nD) (r : Fin 7) : k0_off6 d (wd7 r) = ![(qp d r).val] := by revert d r; decide +kernel
theorem off7_eq (d : Dev nD) : k0_off7 d = ![(qc d).val] := k0_off7_eq d
theorem off8_eq (d : Dev nD) : k0_off8 d = ![0, (qc d).val, 0, 0] := k0_off8_eq d
theorem off9_eq (d : Dev nD) (r : Fin 7) : k0_off9 d (wd7 r) = ![0, (qp d r).val, 0, 0] := by revert d r; decide +kernel
theorem off10_eq (d : Dev nD) : k0_off10 d = ![0, (qc d).val, 0, 0] := k0_off10_eq d

/-! ## Semaphores -/

set_option backward.proofsInPublic true in
def sA (k : Fin 4) : DmaSem sig := ⟨k.val, by have := k.isLt; show k.val < 27; omega⟩
set_option backward.proofsInPublic true in
def rA (k : Fin 4) : DmaSem sig := ⟨4 + k.val, by have := k.isLt; show 4 + k.val < 27; omega⟩
set_option backward.proofsInPublic true in
def sB (k : Fin 8) : DmaSem sig := ⟨8 + k.val, by have := k.isLt; show 8 + k.val < 27; omega⟩
set_option backward.proofsInPublic true in
def rB (k : Fin 8) : DmaSem sig := ⟨16 + k.val, by have := k.isLt; show 16 + k.val < 27; omega⟩
abbrev wS : DmaSem sig := cc0_scratch10.sem
abbrev xS : DmaSem sig := cc0_scratch11.sem
abbrev oS : DmaSem sig := cc0_scratch12.sem
abbrev rdyS : Sem sig := cc0_scratch13.sem
abbrev barS : Sem sig := (SemArray.scalar (sig.barrier 0 rfl) : Sems sig S_).sem

/-- The send semaphore of phase A at peer `r`, as the kernel slices it; so the three other families. -/
abbrev kSA (d : Dev nD) (r : Fin 3) : DmaSem sig :=
  ((cc0_scratch6.slice (Rect.unit (s := S4) (k0_off1 d (wd3 r)) S1.size (k0_off1_inb d r))).squeeze S_ squeezes_S1_S_).sem
abbrev kRAown (d : Dev nD) : DmaSem sig :=
  ((cc0_scratch7.slice (Rect.unit (s := S4) (k0_off2 d) S1.size (k0_off2_inb d))).squeeze S_ squeezes_S1_S_).sem
abbrev kRA (d : Dev nD) (r : Fin 3) : DmaSem sig :=
  ((cc0_scratch7.slice (Rect.unit (s := S4) (k0_off1 d (wd3 r)) S1.size (k0_off1_inb d r))).squeeze S_ squeezes_S1_S_).sem
abbrev kSB (d : Dev nD) (r : Fin 7) : DmaSem sig :=
  ((cc0_scratch8.slice (Rect.unit (s := S8) (k0_off6 d (wd7 r)) S1.size (k0_off6_inb d r))).squeeze S_ squeezes_S1_S_).sem
abbrev kRBown (d : Dev nD) : DmaSem sig :=
  ((cc0_scratch9.slice (Rect.unit (s := S8) (k0_off7 d) S1.size (k0_off7_inb d))).squeeze S_ squeezes_S1_S_).sem
abbrev kRB (d : Dev nD) (r : Fin 7) : DmaSem sig :=
  ((cc0_scratch9.slice (Rect.unit (s := S8) (k0_off6 d (wd7 r)) S1.size (k0_off6_inb d r))).squeeze S_ squeezes_S1_S_).sem

theorem inb4 (k : Fin 4) : ∀ a, (![k.val] : Fin 1 → ℕ) a + S1.size a ≤ S4.size a := by revert k; decide
theorem inb8 (k : Fin 8) : ∀ a, (![k.val] : Fin 1 → ℕ) a + S1.size a ≤ S8.size a := by revert k; decide

theorem cell6 : ∀ k : Fin 4, ((cc0_scratch6.slice (Rect.unit (s := S4) ![k.val] S1.size (inb4 k))).squeeze S_ squeezes_S1_S_).sem = sA k := by decide
theorem cell7 : ∀ k : Fin 4, ((cc0_scratch7.slice (Rect.unit (s := S4) ![k.val] S1.size (inb4 k))).squeeze S_ squeezes_S1_S_).sem = rA k := by decide
theorem cell8 : ∀ k : Fin 8, ((cc0_scratch8.slice (Rect.unit (s := S8) ![k.val] S1.size (inb8 k))).squeeze S_ squeezes_S1_S_).sem = sB k := by decide
theorem cell9 : ∀ k : Fin 8, ((cc0_scratch9.slice (Rect.unit (s := S8) ![k.val] S1.size (inb8 k))).squeeze S_ squeezes_S1_S_).sem = rB k := by decide

theorem kSA_eq (d : Dev nD) (r : Fin 3) : kSA d r = sA (zp d r) := by
  unfold kSA; rw [SemArray.slice_unit_congr _ (off1_eq d r) _ (inb4 _)]; exact cell6 _
theorem kRA_eq (d : Dev nD) (r : Fin 3) : kRA d r = rA (zp d r) := by
  unfold kRA; rw [SemArray.slice_unit_congr _ (off1_eq d r) _ (inb4 _)]; exact cell7 _
theorem kRAown_eq (d : Dev nD) : kRAown d = rA (zc d) := by
  unfold kRAown; rw [SemArray.slice_unit_congr _ (off2_eq d) _ (inb4 _)]; exact cell7 _
theorem kSB_eq (d : Dev nD) (r : Fin 7) : kSB d r = sB (qp d r) := by
  unfold kSB; rw [SemArray.slice_unit_congr _ (off6_eq d r) _ (inb8 _)]; exact cell8 _
theorem kRB_eq (d : Dev nD) (r : Fin 7) : kRB d r = rB (qp d r) := by
  unfold kRB; rw [SemArray.slice_unit_congr _ (off6_eq d r) _ (inb8 _)]; exact cell9 _
theorem kRBown_eq (d : Dev nD) : kRBown d = rB (qc d) := by
  unfold kRBown; rw [SemArray.slice_unit_congr _ (off7_eq d) _ (inb8 _)]; exact cell9 _

/-! ## Slots of the exchange buffers -/

theorem inbA (k : Fin 4) : ∀ a, (![k.val, 0, 0, 0] : Fin 4 → ℕ) a + S1x8x32x32.size a ≤ S4x8x32x32.size a := by revert k; decide
theorem inbB (k : Fin 8) : ∀ a, (![0, k.val, 0, 0] : Fin 4 → ℕ) a + S4x1x32x32.size a ≤ S4x8x32x32.size a := by revert k; decide

/-- Row `k` along the first axis. -/
abbrev recA (k : Fin 4) : Rect S4x8x32x32 := Rect.unit (s := S4x8x32x32) ![k.val, 0, 0, 0] S1x8x32x32.size (inbA k)
/-- Row `k` along the second axis. -/
abbrev recB (k : Fin 8) : Rect S4x8x32x32 := Rect.unit (s := S4x8x32x32) ![0, k.val, 0, 0] S4x1x32x32.size (inbB k)

abbrev b0 : Memref sig .tc .vmem S4x8x32x32 .bf16 := Memref.whole cc0_scratch0
abbrev b1 : Memref sig .tc .vmem S4x8x32x32 .bf16 := Memref.whole cc0_scratch1
abbrev b2 : Memref sig .tc .vmem S4x8x32x32 .bf16 := Memref.whole cc0_scratch2
abbrev bw : Memref sig .tc .vmem S1024x1024 .f32 := Memref.whole cc0_scratch3
abbrev bx : Memref sig .tc .vmem S1024x32 .f32 := Memref.whole cc0_scratch4
abbrev by' : Memref sig .tc .vmem S32x1024 .bf16 := Memref.whole cc0_scratch5
abbrev ax : Memref sig .tc .hbm S1024x32 .f32 := Memref.whole main_arg0
abbrev aw : Memref sig .tc .hbm S1024x1024 .f32 := Memref.whole main_arg1
abbrev ao : Memref sig .tc .hbm S32x1024 .bf16 := Memref.whole main_v1

abbrev slA (m : Memref sig .tc .vmem S4x8x32x32 .bf16) (k : Fin 4) : Memref sig .tc .vmem S1x8x32x32 .bf16 :=
  m.slice (recA k) (fun _ => rfl)
abbrev slB (m : Memref sig .tc .vmem S4x8x32x32 .bf16) (k : Fin 8) : Memref sig .tc .vmem S4x1x32x32 .bf16 :=
  m.slice (recB k) (fun _ => rfl)

/-- The slots as the kernel slices them. -/
abbrev kA4 (m : Memref sig .tc .vmem S4x8x32x32 .bf16) (d : Dev nD) (r : Fin 3) : Memref sig .tc .vmem S1x8x32x32 .bf16 :=
  m.slice (Rect.unit (s := S4x8x32x32) (k0_off4 d (wd3 r)) S1x8x32x32.size (k0_off4_inb d r)) (fun _ => rfl)
abbrev kA3 (m : Memref sig .tc .vmem S4x8x32x32 .bf16) (d : Dev nD) : Memref sig .tc .vmem S1x8x32x32 .bf16 :=
  m.slice (Rect.unit (s := S4x8x32x32) (k0_off3 d) S1x8x32x32.size (k0_off3_inb d)) (fun _ => rfl)
abbrev kB9 (m : Memref sig .tc .vmem S4x8x32x32 .bf16) (d : Dev nD) (r : Fin 7) : Memref sig .tc .vmem S4x1x32x32 .bf16 :=
  m.slice (Rect.unit (s := S4x8x32x32) (k0_off9 d (wd7 r)) S4x1x32x32.size (k0_off9_inb d r)) (fun _ => rfl)
abbrev kB8 (m : Memref sig .tc .vmem S4x8x32x32 .bf16) (d : Dev nD) : Memref sig .tc .vmem S4x1x32x32 .bf16 :=
  m.slice (Rect.unit (s := S4x8x32x32) (k0_off8 d) S4x1x32x32.size (k0_off8_inb d)) (fun _ => rfl)

theorem kA4_eq (m : Memref sig .tc .vmem S4x8x32x32 .bf16) (d : Dev nD) (r : Fin 3) : kA4 m d r = slA m (zp d r) :=
  Memref.slice_unit_congr _ (off4_eq d r) _ _ _ _
theorem kA3_eq (m : Memref sig .tc .vmem S4x8x32x32 .bf16) (d : Dev nD) : kA3 m d = slA m (zc d) :=
  Memref.slice_unit_congr _ (off3_eq d) _ _ _ _
theorem kB9_eq (m : Memref sig .tc .vmem S4x8x32x32 .bf16) (d : Dev nD) (r : Fin 7) : kB9 m d r = slB m (qp d r) :=
  Memref.slice_unit_congr _ (off9_eq d r) _ _ _ _
theorem kB8_eq (m : Memref sig .tc .vmem S4x8x32x32 .bf16) (d : Dev nD) : kB8 m d = slB m (qc d) :=
  Memref.slice_unit_congr _ (off8_eq d) _ _ _ _

end Cert.TwoPhase

end
-- ==== Proof.A2aProg.lean ====
/- The kernel's body as one flat sequence of effects, the peer steps written at a symbolic peer index. -/
module

public import proofs.«01_k».proof.Proof.A2aMesh

@[expose] public section

noncomputable section

namespace Cert.TwoPhase

open Cert.KernelIdeal Cert.KernelIdeal.Gen
open Idealize.ShloMosaic Idealize.ShloMosaic.TcCoe
open Idealize.SL Idealize.SL.RA Idealize.SL.BI
open Idealize.SL.Sem

variable {F : FTy → Type} [FloatOps F]

local notation "𝔼" => TpuEff nD τ sig (Elt F) Λ₀ Proc.tc
local notation "ℙ" => Prog (TpuEff nD τ sig (Elt F) Λ₀ Proc.tc) PUnit

/-- A step per member of a list, then the rest. -/
def steps {ι : Type} (e : ι → 𝔼 PUnit) : List ι → ℙ → ℙ
  | [], k => k
  | r :: l, k => .op (e r) fun _ => steps e l k

/-- The peers in the kernel's order. -/
def r3 : List (Fin 3) := [0, 1, 2]
def r7 : List (Fin 7) := [0, 1, 2, 3, 4, 5, 6]

theorem b0w : b0.IsWhole := Memref.isWhole_whole _
theorem b1w : b1.IsWhole := Memref.isWhole_whole _
theorem b2w : b2.IsWhole := Memref.isWhole_whole _
theorem bww : bw.IsWhole := Memref.isWhole_whole _
theorem bxw : bx.IsWhole := Memref.isWhole_whole _
theorem byw : by'.IsWhole := Memref.isWhole_whole _
theorem axw : ax.IsWhole := Memref.isWhole_whole _
theorem aww : aw.IsWhole := Memref.isWhole_whole _
theorem aow : ao.IsWhole := Memref.isWhole_whole _

/-- A transfer to device `n`. -/
abbrev eSnd {s : Shape} (n : Dev nD) (src dst : Memref sig .tc .vmem s .bf16) (sS sR : DmaSem sig) (h₁ : src.view.WordExact)
    (h₂ : dst.view.WordExact) : 𝔼 PUnit :=
  .enqueueDma src (.remote (Dev.tc n) dst (.dma sS)) (.dma sR) h₁ h₂ ⟨⟨rfl, Or.inl rfl⟩, trivial⟩

abbrev eBar (d : Dev nD) (r : Fin 3) : 𝔼 PUnit := .semSignal (Dev.tc (dvBar d r)) barS 1
abbrev eRdy (d : Dev nD) (r : Fin 7) : 𝔼 PUnit := .semSignal (Dev.tc (dvRdy d r)) rdyS 1
abbrev eSA (d : Dev nD) (r : Fin 3) : 𝔼 PUnit :=
  eSnd (dvA d r) (kA4 b0 d r) (kA3 b1 d) (kSA d r) (kRAown d) (b0w.wordExact_slice rfl _ (k0_off4_wordsbf16 d r)) (b1w.wordExact_slice rfl _ (k0_off3_wordsbf16 d))
abbrev eSB (d : Dev nD) (r : Fin 7) : 𝔼 PUnit :=
  eSnd (dvB d r) (kB9 b1 d r) (kB8 b2 d) (kSB d r) (kRBown d) (b1w.wordExact_slice rfl _ (k0_off9_wordsbf16 d r)) (b2w.wordExact_slice rfl _ (k0_off8_wordsbf16 d))
abbrev eRA (d : Dev nD) (r : Fin 3) : 𝔼 PUnit :=
  .waitDma2 (kRA d r) (kA4 b0 d r) (kA4 b1 d r) (b0w.wordExact_slice rfl _ (k0_off4_wordsbf16 d r)) (b1w.wordExact_slice rfl _ (k0_off4_wordsbf16 d r))
abbrev eRB (d : Dev nD) (r : Fin 7) : 𝔼 PUnit :=
  .waitDma2 (kRB d r) (kB9 b1 d r) (kB9 b2 d r) (b1w.wordExact_slice rfl _ (k0_off9_wordsbf16 d r)) (b2w.wordExact_slice rfl _ (k0_off9_wordsbf16 d r))
abbrev eFA (d : Dev nD) (r : Fin 3) : 𝔼 PUnit :=
  .waitDma2 (kSA d r) (kA3 b1 d) (kA4 b0 d r) (b1w.wordExact_slice rfl _ (k0_off3_wordsbf16 d)) (b0w.wordExact_slice rfl _ (k0_off4_wordsbf16 d r))
abbrev eFB (d : Dev nD) (r : Fin 7) : 𝔼 PUnit :=
  .waitDma2 (kSB d r) (kB8 b2 d) (kB9 b1 d r) (b2w.wordExact_slice rfl _ (k0_off8_wordsbf16 d)) (b1w.wordExact_slice rfl _ (k0_off9_wordsbf16 d r))

/-- The rectangle of a device's own slot, along the first axis and along the second. -/
abbrev ownA (d : Dev nD) : Rect S4x8x32x32 := Rect.unit (s := S4x8x32x32) (k0_off5 d) S1x8x32x32.size (k0_off5_inb d)
abbrev ownB (d : Dev nD) : Rect S4x8x32x32 := Rect.unit (s := S4x8x32x32) (k0_off10 d) S4x1x32x32.size (k0_off10_inb d)
abbrev all4 : Rect S4x8x32x32 := Rect.unit (s := S4x8x32x32) ![0, 0, 0, 0] S4x8x32x32.size inb_S4x8x32x32_S4x8x32x32_0_0_0_0
abbrev allx : Rect S1024x32 := Rect.unit (s := S1024x32) ![0, 0] S1024x32.size inb_S1024x32_S1024x32_0_0
abbrev allw : Rect S1024x1024 := Rect.unit (s := S1024x1024) ![0, 0] S1024x1024.size inb_S1024x1024_S1024x1024_0_0
abbrev ally : Rect S32x1024 := Rect.unit (s := S32x1024) ![0, 0] S32x1024.size inb_S32x1024_S32x1024_0_0

/-- The body's last part: the waits for its own sends. -/
def progFin (d : Dev nD) : ℙ :=
  steps (eFA d) r3 <| steps (eFB d) r7 <| .ret ⟨⟩

/-- From the gathered rows to the result. -/
def progOut (d : Dev nD) : ℙ :=
  .op (.load b2 all4.toLoadRect (View.loadsAt_vmem h_S4x8x32x32)) fun (v592 : Vec F S4x8x32x32 .bf16) =>
  .op (.waitDma2 wS aw bw aww.wordExact bww.wordExact) fun _ =>
  .op (.load bw allw.toLoadRect (View.loadsAt_vmem h_S1024x1024)) fun (v595 : Vec F S1024x1024 .f32) =>
  .op (.load by' ally.toLoadRect (View.loadsAt_vmem h_S32x1024)) fun _ =>
  .op (.store by' ally (k0_pay4 v592 v595) Finset.univ (View.stores_vmem h_S32x1024 (byw.storeExact_slice rfl _ packedbf16_S32x1024_S32x1024_0_0) (fun _ => rfl)) (.inl rfl)) fun _ =>
  .op (.enqueueDma by' (.here ao) (.dma oS) byw.wordExact aow.wordExact ⟨Or.inl rfl, trivial⟩) fun _ =>
  .op (.waitDma2 oS by' ao byw.wordExact aow.wordExact) fun _ => progFin d

/-- Phase B. -/
def progB (d : Dev nD) : ℙ :=
  .op (.semWait rdyS 7) fun _ =>
  steps (eSB d) r7 <|
  .op (.load b1 (ownB d).toLoadRect (View.loadsAt_vmem h_S4x1x32x32)) fun (v454 : Vec F S4x1x32x32 .bf16) =>
  .op (.load b2 (ownB d).toLoadRect (View.loadsAt_vmem h_S4x1x32x32)) fun _ =>
  .op (.store b2 (ownB d) (k0_pay3 v454) Finset.univ (View.stores_vmem h_S4x1x32x32 (b2w.storeExact_slice rfl _ (k0_off10_packedbf16 d)) (fun _ => rfl)) (.inl rfl)) fun _ =>
  steps (eRB d) r7 <| progOut d

/-- Phase A. -/
def progA (d : Dev nD) : ℙ :=
  .op (.semWait barS 3) fun _ =>
  steps (eSA d) r3 <| steps (eRdy d) r7 <|
  .op (.load b0 (ownA d).toLoadRect (View.loadsAt_vmem h_S1x8x32x32)) fun (v244 : Vec F S1x8x32x32 .bf16) =>
  .op (.load b1 (ownA d).toLoadRect (View.loadsAt_vmem h_S1x8x32x32)) fun _ =>
  .op (.store b1 (ownA d) (k0_pay2 v244) Finset.univ (View.stores_vmem h_S1x8x32x32 (b1w.storeExact_slice rfl _ (k0_off5_packedbf16 d)) (fun _ => rfl)) (.inl rfl)) fun _ =>
  steps (eRA d) r3 <| progB d

/-- The whole body, after the device's number is read. -/
def prog (d : Dev nD) : ℙ :=
  .op (.enqueueDma ax (.here bx) (.dma xS) axw.wordExact bxw.wordExact ⟨Or.inl rfl, trivial⟩) fun _ =>
  .op (.enqueueDma aw (.here bw) (.dma wS) aww.wordExact bww.wordExact ⟨Or.inl rfl, trivial⟩) fun _ =>
  steps (eBar d) r3 <|
  .op (.waitDma2 xS ax bx axw.wordExact bxw.wordExact) fun _ =>
  .op (.load bx allx.toLoadRect (View.loadsAt_vmem h_S1024x32)) fun (v67 : Vec F S1024x32 .f32) =>
  .op (.load b0 all4.toLoadRect (View.loadsAt_vmem h_S4x8x32x32)) fun _ =>
  .op (.store b0 all4 (k0_pay1 v67) Finset.univ (View.stores_vmem h_S4x8x32x32 (b0w.storeExact_slice rfl _ packedbf16_S4x8x32x32_S4x8x32x32_0_0_0_0) (fun _ => rfl)) (.inl rfl)) fun _ =>
  progA d

set_option maxRecDepth 65536 in
/-- The kernel's body is the flat program. -/
theorem bodyAt0_eq (t : Fin cfg0.N) : bodyAt0 (F := F) t = .op .deviceId fun d => prog d := by
  chain_rfl

end Cert.TwoPhase

end
-- ==== Proof.A2aSlots.lean ====
/- The slots of the exchange buffers: their element sets, a buffer split into slots and joined again, the contents each
   slot is to hold after each phase, and what the two phases' copies land. -/
module

public import proofs.«01_k».proof.Proof.A2aProg
public import Idealize.ShloMosaic.Lib.Ring

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duty names: a peer's number, of either family. -/
abbrev UB : Type := URounds (GSem nD τ sig) (Fin 8)
abbrev UU : Type := UR sig nD τ × UB

local notation "𝕄" => MT nD τ sig Unit (Elt F) ℕ UU ℕ

abbrev V4 (F : FTy → Type) : Type := S4x8x32x32.Idx → Elt F .bf16

/-! ## Element sets -/

theorem mem_recA (k : Fin 4) (i : S4x8x32x32.Idx) : i ∈ (recA k).set ↔ i 0 = k := by
  rw [Rect.mem_set_unit]
  constructor
  · intro h
    have h0 := h 0
    exact Fin.ext (by simp at h0; omega)
  · intro h a
    subst h
    fin_cases a
    · exact ⟨Nat.le_refl _, Nat.lt_succ_self _⟩
    all_goals exact ⟨Nat.zero_le _, (Nat.zero_add _).symm ▸ (i _).isLt⟩

theorem mem_recB (k : Fin 8) (i : S4x8x32x32.Idx) : i ∈ (recB k).set ↔ i 1 = k := by
  rw [Rect.mem_set_unit]
  constructor
  · intro h
    have h0 := h 1
    exact Fin.ext (by simp at h0; omega)
  · intro h a
    subst h
    fin_cases a
    · exact ⟨Nat.zero_le _, (Nat.zero_add _).symm ▸ (i _).isLt⟩
    · exact ⟨Nat.le_refl _, Nat.lt_succ_self _⟩
    all_goals exact ⟨Nat.zero_le _, (Nat.zero_add _).symm ▸ (i _).isLt⟩

theorem disjA (k k' : Fin 4) (h : k ≠ k') : Disjoint (recA k).set (recA k').set :=
  Finset.disjoint_left.mpr fun i hi hi' => h (((mem_recA k i).mp hi).symm.trans ((mem_recA k' i).mp hi'))
theorem disjB (k k' : Fin 8) (h : k ≠ k') : Disjoint (recB k).set (recB k').set :=
  Finset.disjoint_left.mpr fun i hi hi' => h (((mem_recB k i).mp hi).symm.trans ((mem_recB k' i).mp hi'))
theorem coverA : Finset.univ.biUnion (fun k : Fin 4 => (recA k).set) = Finset.univ :=
  Finset.eq_univ_iff_forall.mpr fun i => Finset.mem_biUnion.mpr ⟨i 0, Finset.mem_univ _, (mem_recA _ i).mpr rfl⟩
theorem coverB : Finset.univ.biUnion (fun k : Fin 8 => (recB k).set) = Finset.univ :=
  Finset.eq_univ_iff_forall.mpr fun i => Finset.mem_biUnion.mpr ⟨i 1, Finset.mem_univ _, (mem_recB _ i).mpr rfl⟩

theorem set0A (k : Fin 4) : (slA b0 k).view.set = (recA k).set := View.set_slice_whole _ _
theorem set1A (k : Fin 4) : (slA b1 k).view.set = (recA k).set := View.set_slice_whole _ _
theorem set1B (k : Fin 8) : (slB b1 k).view.set = (recB k).set := View.set_slice_whole _ _
theorem set2B (k : Fin 8) : (slB b2 k).view.set = (recB k).set := View.set_slice_whole _ _

/-- Slot `k` along the first axis of an exchange buffer of device `c`, held at `f`; along the second. -/
def pA (m : Memref sig .tc .vmem S4x8x32x32 .bf16) (c : Dev nD) (k : Fin 4) (f : Buf (Elt F) ((slA m k).view.loc (c : Thread nD τ))) : sProp 𝕄 :=
  (slA m k).view.loc (c : Thread nD τ) ↦[(slA m k).view.set]{fullShare} f
def pB (m : Memref sig .tc .vmem S4x8x32x32 .bf16) (c : Dev nD) (k : Fin 8) (f : Buf (Elt F) ((slB m k).view.loc (c : Thread nD τ))) : sProp 𝕄 :=
  (slB m k).view.loc (c : Thread nD τ) ↦[(slB m k).view.set]{fullShare} f

omit [FloatOps F] in
instance pA_storable (m c k) (f) : BI.Storable (upEmb : UEmb _ 𝕄) (pA (F := F) m c k f) := by unfold pA; infer_instance
omit [FloatOps F] in
instance pB_storable (m c k) (f) : BI.Storable (upEmb : UEmb _ 𝕄) (pB (F := F) m c k f) := by unfold pB; infer_instance

/-! ## Splitting and joining -/

omit [FloatOps F] in
theorem split0A (c : Dev nD) (f : Buf (Elt F) ((c : Thread nD τ).loc cc0_scratch0)) :
    (((c : Thread nD τ).loc cc0_scratch0) ↦{fullShare} f : sProp 𝕄) = bigSep Finset.univ fun k => pA b0 c k f :=
  (Ring.pointsTo_blocks (fun k : Fin 4 => (recA k).set) disjA coverA f).trans (bigSep_congr fun k _ => by unfold pA; rw [set0A])
omit [FloatOps F] in
theorem split1A (c : Dev nD) (f : Buf (Elt F) ((c : Thread nD τ).loc cc0_scratch1)) :
    (((c : Thread nD τ).loc cc0_scratch1) ↦{fullShare} f : sProp 𝕄) = bigSep Finset.univ fun k => pA b1 c k f :=
  (Ring.pointsTo_blocks (fun k : Fin 4 => (recA k).set) disjA coverA f).trans (bigSep_congr fun k _ => by unfold pA; rw [set1A])
omit [FloatOps F] in
theorem split1B (c : Dev nD) (f : Buf (Elt F) ((c : Thread nD τ).loc cc0_scratch1)) :
    (((c : Thread nD τ).loc cc0_scratch1) ↦{fullShare} f : sProp 𝕄) = bigSep Finset.univ fun k => pB b1 c k f :=
  (Ring.pointsTo_blocks (fun k : Fin 8 => (recB k).set) disjB coverB f).trans (bigSep_congr fun k _ => by unfold pB; rw [set1B])
omit [FloatOps F] in
theorem split2B (c : Dev nD) (f : Buf (Elt F) ((c : Thread nD τ).loc cc0_scratch2)) :
    (((c : Thread nD τ).loc cc0_scratch2) ↦{fullShare} f : sProp 𝕄) = bigSep Finset.univ fun k => pB b2 c k f :=
  (Ring.pointsTo_blocks (fun k : Fin 8 => (recB k).set) disjB coverB f).trans (bigSep_congr fun k _ => by unfold pB; rw [set2B])

/-! ## Contents -/

variable (m : (ℓ : Loc nD τ sig) → Buf (Elt F) ℓ)

def setA (i : S4x8x32x32.Idx) (k : Fin 4) : S4x8x32x32.Idx := Function.update i 0 k
def setB (i : S4x8x32x32.Idx) (k : Fin 8) : S4x8x32x32.Idx := Function.update i 1 k

/-- What device `c` sends: its columns of the argument, in rows of 32 per destination. -/
def SB (c : Dev nD) : V4 F := k0_pay1 (m ((c : Thread nD τ).loc main_arg0))
/-- What it holds after phase A: row `k` is what the device of its column at first coordinate `k` sends to its row of the mesh. -/
def RA (c : Dev nD) : V4 F := fun i => SB m (mk (i 0) (qc c)) (setA i (zc c))
/-- And after phase B. -/
def RB (c : Dev nD) : V4 F := fun i => RA m (mk (zc c) (i 1)) (setB i (qc c))

theorem embA (k k' : Fin 4) (x : S1x8x32x32.Idx) : (recA k').emb x = setA ((recA k).emb x) k' := by
  funext a
  fin_cases a
  · refine Fin.ext ?_
    show k'.val + 1 * (x 0).val = k'.val
    have : (x 0).val < 1 := (x 0).isLt
    omega
  all_goals rfl
theorem embB (k k' : Fin 8) (x : S4x1x32x32.Idx) : (recB k').emb x = setB ((recB k).emb x) k' := by
  funext a
  fin_cases a
  · rfl
  · refine Fin.ext ?_
    show k'.val + 1 * (x 1).val = k'.val
    have : (x 1).val < 1 := (x 1).isLt
    omega
  all_goals rfl
theorem embA0 (k : Fin 4) (x : S1x8x32x32.Idx) : (recA k).emb x 0 = k := (mem_recA k _).mp (LoadRect.idx_mem (recA k).toLoadRect x)
theorem embB1 (k : Fin 8) (x : S4x1x32x32.Idx) : (recB k).emb x 1 = k := (mem_recB k _).mp (LoadRect.idx_mem (recB k).toLoadRect x)

/-- Phase A lands row `k` of `d`'s buffer in row `zc d` of the device of its column at `k`. -/
theorem landA (d : Dev nD) (k : Fin 4) (fd : V4 F) (w : S1x8x32x32.Idx → Elt F .bf16)
    (hw : ∀ x, w x = SB m d ((recA k).emb x)) (i : S4x8x32x32.Idx) (hi : i ∈ (slA b1 (zc d)).view.set) :
    (slA b1 (zc d)).view.write (Elt F) fd w Finset.univ i = RA m (mk k (qc d)) i := by
  obtain ⟨x, -, rfl⟩ := Finset.mem_map.mp hi
  rw [View.write_emb_of_mem _ _ (Finset.mem_univ x)]
  show w x = SB m (mk ((recA (zc d)).emb x 0) (qc (mk k (qc d)))) (setA ((recA (zc d)).emb x) (zc (mk k (qc d))))
  rw [hw, embA0, zc_mk, qc_mk, mk_eta, ← embA]

theorem landB (d : Dev nD) (k : Fin 8) (fd : V4 F) (w : S4x1x32x32.Idx → Elt F .bf16)
    (hw : ∀ x, w x = RA m d ((recB k).emb x)) (i : S4x8x32x32.Idx) (hi : i ∈ (slB b2 (qc d)).view.set) :
    (slB b2 (qc d)).view.write (Elt F) fd w Finset.univ i = RB m (mk (zc d) k) i := by
  obtain ⟨x, -, rfl⟩ := Finset.mem_map.mp hi
  rw [View.write_emb_of_mem _ _ (Finset.mem_univ x)]
  show w x = RA m (mk (zc (mk (zc d) k)) ((recB (qc d)).emb x 1)) (setB ((recB (qc d)).emb x) (qc (mk (zc d) k)))
  rw [hw, embB1, zc_mk, qc_mk, mk_eta, ← embB]

theorem landA_pts (d : Dev nD) (k : Fin 4) (fd : V4 F) (w : S1x8x32x32.Idx → Elt F .bf16)
    (hw : ∀ x, w x = SB m d ((recA k).emb x)) :
    pA b1 (mk k (qc d)) (zc d) ((slA b1 (zc d)).view.write (Elt F) fd w Finset.univ) = pA b1 (mk k (qc d)) (zc d) (RA m (mk k (qc d))) :=
  pointsTo_congr fun i hi => landA m d k fd w hw i hi
theorem landB_pts (d : Dev nD) (k : Fin 8) (fd : V4 F) (w : S4x1x32x32.Idx → Elt F .bf16)
    (hw : ∀ x, w x = RA m d ((recB k).emb x)) :
    pB b2 (mk (zc d) k) (qc d) ((slB b2 (qc d)).view.write (Elt F) fd w Finset.univ) = pB b2 (mk (zc d) k) (qc d) (RB m (mk (zc d) k)) :=
  pointsTo_congr fun i hi => landB m d k fd w hw i hi

/-! ## A device's own slots -/

theorem ownA_eq (d : Dev nD) : ownA d = recA (zc d) := Rect.unit_congr (off5_eq d) _ _
theorem ownB_eq (d : Dev nD) : ownB d = recB (qc d) := Rect.unit_congr (off10_eq d) _ _

/-- The credit of one slot's transfer. -/
abbrev NA : ℕ := (slA b1 0).view.dmaCredit
abbrev NB : ℕ := (slB b2 0).view.dmaCredit
theorem crA0 (k : Fin 4) : (slA b0 k).view.dmaCredit = NA := rfl
theorem crA1 (k : Fin 4) : (slA b1 k).view.dmaCredit = NA := rfl
theorem crB1 (k : Fin 8) : (slB b1 k).view.dmaCredit = NB := rfl
theorem crB2 (k : Fin 8) : (slB b2 k).view.dmaCredit = NB := rfl
theorem NA_pos : 0 < NA := View.dmaCredit_pos _ (by decide)
theorem NB_pos : 0 < NB := View.dmaCredit_pos _ (by decide)

end Cert.TwoPhase

end
-- ==== Proof.A2aSched.lean ====
/- The schedule of the exchange's semaphores: which device pays each cell, how much, and what it hands over; what each device
   owes at launch, in order; the levels. -/
module

public import proofs.«01_k».proof.Proof.A2aSlots

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Roles of the semaphores -/

/-- What a semaphore is for. -/
inductive Role where
  | sendA (k : Fin 4) | recvA (k : Fin 4) | sendB (k : Fin 8) | recvB (k : Fin 8) | w | x | o | rdy | bar

set_option backward.proofsInPublic true in
def role : SemLoc sig → Role
  | .dma s =>
    if h : s.val < 4 then .sendA ⟨s.val, h⟩
    else if h : s.val < 8 then .recvA ⟨s.val - 4, by omega⟩
    else if h : s.val < 16 then .sendB ⟨s.val - 8, by omega⟩
    else if h : s.val < 24 then .recvB ⟨s.val - 16, by omega⟩
    else if s.val = 24 then .w else if s.val = 25 then .x else .o
  | .reg s => if s.val = 0 then .rdy else .bar

theorem role_sA (k : Fin 4) : role (.dma (sA k)) = .sendA k := by fin_cases k <;> rfl
theorem role_rA (k : Fin 4) : role (.dma (rA k)) = .recvA k := by fin_cases k <;> rfl
theorem role_sB (k : Fin 8) : role (.dma (sB k)) = .sendB k := by fin_cases k <;> rfl
theorem role_rB (k : Fin 8) : role (.dma (rB k)) = .recvB k := by fin_cases k <;> rfl
theorem role_w : role (.dma wS) = .w := rfl
theorem role_x : role (.dma xS) = .x := rfl
theorem role_o : role (.dma oS) = .o := rfl
theorem role_rdy : role (.reg rdyS) = .rdy := rfl
theorem role_bar : role (.reg barS) = .bar := rfl

/-- A cell of device `c`'s core. -/
abbrev cl (c : Dev nD) (sm : SemLoc sig) : GSem nD τ sig := ((c : Thread nD τ), sm)

set_option backward.proofsInPublic true in
/-- A first coordinate as a duty name, and back. -/
def e4 (k : Fin 4) : Fin 8 := ⟨k.val, by have := k.isLt; omega⟩
set_option backward.proofsInPublic true in
def lo (d : Fin 8) : Fin 4 := ⟨d.val % 4, Nat.mod_lt _ (by decide)⟩
theorem lo_e4 (k : Fin 4) : lo (e4 k) = k := by revert k; decide
theorem e4_inj : Function.Injective e4 := fun a b h => by rw [← lo_e4 a, h, lo_e4]

/-! ## The schedule -/

variable (m : (ℓ : Loc nD τ sig) → Buf (Elt F) ℓ)

/-- The kernel's result on device `c`. -/
def outAt (c : Dev nD) : S32x1024.Idx → Elt F .bf16 := k0_pay4 (RB m c) (m ((c : Thread nD τ).loc main_arg1))

abbrev NX : ℕ := bx.view.dmaCredit
abbrev NW : ℕ := bw.view.dmaCredit
abbrev NO : ℕ := ao.view.dmaCredit

/-- A buffer of device `c` held whole. -/
def whl (c : Dev nD) (b : Ref sig .tc) (f : Buf (Elt F) ((c : Thread nD τ).loc b)) : sProp 𝕄 := ((c : Thread nD τ).loc b) ↦{fullShare} f
omit [FloatOps F] in
instance whl_storable (c b) (f) : BI.Storable (upEmb : UEmb _ 𝕄) (whl (F := F) c b f) := by unfold whl; infer_instance

def dut (c : Dev nD) : Role → Finset (Fin 8)
  | .sendA k | .recvA k => if k = zc c then ∅ else {0}
  | .sendB k | .recvB k => if k = qc c then ∅ else {0}
  | .w | .x | .o => {0}
  | .rdy => Finset.univ.erase (qc c)
  | .bar => (Finset.univ.erase (zc c)).map ⟨e4, e4_inj⟩

def amt : Role → ℕ
  | .sendA _ | .recvA _ => NA
  | .sendB _ | .recvB _ => NB
  | .w => NW | .x => NX | .o => NO
  | .rdy | .bar => 1

def pay (c : Dev nD) : Role → Fin 8 → sProp 𝕄
  | .sendA k, _ => pA b0 c k (SB m c)
  | .recvA k, _ => pA b1 c k (RA m c)
  | .sendB k, _ => pB b1 c k (RA m c)
  | .recvB k, _ => pB b2 c k (RB m c)
  | .w, _ => iprop(whl c cc0_scratch3 (m ((c : Thread nD τ).loc main_arg1)) ∗ whl c main_arg1 (m ((c : Thread nD τ).loc main_arg1)))
  | .x, _ => iprop(whl c cc0_scratch4 (m ((c : Thread nD τ).loc main_arg0)) ∗ whl c main_arg0 (m ((c : Thread nD τ).loc main_arg0)))
  | .o, _ => iprop(whl c main_v1 (outAt m c) ∗ whl c cc0_scratch5 (outAt m c))
  | .rdy, d => iprop(∃ f, pB b2 (mk (zc c) d) (qc c) f)
  | .bar, d => iprop(∃ f, pA b1 (mk (lo d) (qc c)) (zc c) f)

theorem amt_pos (ρ : Role) : 0 < amt ρ := by
  cases ρ
  case sendA => exact NA_pos
  case recvA => exact NA_pos
  case sendB => exact NB_pos
  case recvB => exact NB_pos
  case rdy => exact Nat.one_pos
  case bar => exact Nat.one_pos
  all_goals exact View.dmaCredit_pos _ (by decide)

/-- One round. -/
def Rd : Rounds.Schedule (GSem nD τ sig) (Fin 8) 𝕄 where
  duties g r := if r = 0 ∧ g.1.2 = .tc then dut g.1.1 (role g.2) else ∅
  unitless _ := False
  amount g _ _ := amt (role g.2)
  payload g _ d := pay m g.1.1 (role g.2) d
  amount_pos g _ _ _ := amt_pos _

instance Rd_payload_storable (g : GSem nD τ sig) (r : ℕ) (d : Fin 8) :
    BI.Storable (upEmb : UEmb _ 𝕄) ((Rd (F := F) m).payload g r d) := by
  show BI.Storable upEmb (pay m g.1.1 (role g.2) d)
  cases role g.2 <;> unfold pay <;> infer_instance

theorem duties_cl (c : Dev nD) (sm : SemLoc sig) : (Rd m).duties (cl c sm) 0 = dut c (role sm) := by
  dsimp only [Rd]; exact if_pos ⟨rfl, rfl⟩
theorem duties_later (g : GSem nD τ sig) : ∀ r, 1 ≤ r → (Rd m).duties g r = ∅ := fun r hr => by
  dsimp only [Rd]; exact if_neg fun h => by omega
theorem amount_cl (c : Dev nD) (sm : SemLoc sig) (r : ℕ) (d : Fin 8) : (Rd m).amount (cl c sm) r d = amt (role sm) := rfl
theorem payload_cl (c : Dev nD) (sm : SemLoc sig) (r : ℕ) (d : Fin 8) : (Rd m).payload (cl c sm) r d = pay m c (role sm) d := rfl
theorem expect_cl (c : Dev nD) (sm : SemLoc sig) : (Rd m).expect (cl c sm) 0 = (dut c (role sm)).card * amt (role sm) := by
  unfold Schedule.expect Schedule.amountOf
  rw [duties_cl, Finset.sum_congr rfl fun d _ => amount_cl m c sm 0 d, Finset.sum_const, smul_eq_mul]
theorem rest_cl (c : Dev nD) (sm : SemLoc sig) :
    bigSep ((Rd m).duties (cl c sm) 0 \ ∅) (fun d => (Rd m).payload (cl c sm) 0 d) = bigSep (dut c (role sm)) (pay m c (role sm)) := by
  rw [Finset.sdiff_empty, duties_cl]; rfl

/-- A cell with one duty. -/
theorem expect_one (c : Dev nD) (sm : SemLoc sig) (h : dut c (role sm) = {0}) : (Rd m).expect (cl c sm) 0 = amt (role sm) := by
  rw [expect_cl, h, Finset.card_singleton, one_mul]
theorem rest_one (c : Dev nD) (sm : SemLoc sig) (h : dut c (role sm) = {0}) :
    bigSep ((Rd m).duties (cl c sm) 0 \ ∅) (fun d => (Rd m).payload (cl c sm) 0 d) = pay m c (role sm) 0 := by
  rw [rest_cl, h, bigSep_singleton]
theorem mem_one (c : Dev nD) (sm : SemLoc sig) (h : dut c (role sm) = {0}) : (0 : Fin 8) ∈ (Rd m).duties (cl c sm) 0 := by
  rw [duties_cl, h]; exact Finset.mem_singleton_self _

theorem dut_sA (c : Dev nD) (k : Fin 4) (h : k ≠ zc c) : dut c (role (.dma (sA k))) = {0} := by rw [role_sA]; exact if_neg h
theorem dut_rA (c : Dev nD) (k : Fin 4) (h : k ≠ zc c) : dut c (role (.dma (rA k))) = {0} := by rw [role_rA]; exact if_neg h
theorem dut_sB (c : Dev nD) (k : Fin 8) (h : k ≠ qc c) : dut c (role (.dma (sB k))) = {0} := by rw [role_sB]; exact if_neg h
theorem dut_rB (c : Dev nD) (k : Fin 8) (h : k ≠ qc c) : dut c (role (.dma (rB k))) = {0} := by rw [role_rB]; exact if_neg h
theorem dut_bar (c : Dev nD) : dut c (role (.reg barS)) = (Finset.univ.erase (zc c)).map ⟨e4, e4_inj⟩ := rfl
theorem dut_rdy (c : Dev nD) : dut c (role (.reg rdyS)) = Finset.univ.erase (qc c) := rfl

theorem expect_bar (c : Dev nD) : (Rd m).expect (cl c (.reg barS)) 0 = 3 := by
  rw [expect_cl, dut_bar, Finset.card_map, Finset.card_erase_of_mem (Finset.mem_univ _)]; rfl
theorem expect_rdy (c : Dev nD) : (Rd m).expect (cl c (.reg rdyS)) 0 = 7 := by
  rw [expect_cl, dut_rdy, Finset.card_erase_of_mem (Finset.mem_univ _)]; rfl

/-! ## Lists of assertions -/

/-- One assertion per member of a list. -/
def sepL {ι : Type} : List ι → (ι → sProp 𝕄) → sProp 𝕄
  | [], _ => iprop(emp)
  | r :: l, Φ => iprop(Φ r ∗ sepL l Φ)

omit [FloatOps F] in
theorem sepL_eq {ι : Type} [DecidableEq ι] (l : List ι) (hl : l.Nodup) (Φ : ι → sProp 𝕄) : bigSep l.toFinset Φ = sepL l Φ := by
  induction l with
  | nil => exact bigSep_empty
  | cons r l ih =>
    rw [List.toFinset_cons, bigSep_insert (by simpa using (List.nodup_cons.mp hl).1), ih (List.nodup_cons.mp hl).2]; rfl

omit [FloatOps F] in
theorem sepL3 (Φ : Fin 3 → sProp 𝕄) : bigSep Finset.univ Φ = sepL r3 Φ := by
  rw [← sepL_eq r3 (by decide), show r3.toFinset = Finset.univ from by decide]
omit [FloatOps F] in
theorem sepL7 (Φ : Fin 7 → sProp 𝕄) : bigSep Finset.univ Φ = sepL r7 Φ := by
  rw [← sepL_eq r7 (by decide), show r7.toFinset = Finset.univ from by decide]

omit [FloatOps F] in
/-- The other coordinates one by one. -/
theorem othersA (c : Dev nD) (Φ : Fin 4 → sProp 𝕄) : bigSep (Finset.univ.erase (zc c)) Φ = sepL r3 fun r => Φ (zp c r) := by
  rw [erase_zc, bigSep_map, sepL3]; rfl
omit [FloatOps F] in
theorem othersB (c : Dev nD) (Φ : Fin 8 → sProp 𝕄) : bigSep (Finset.univ.erase (qc c)) Φ = sepL r7 fun r => Φ (qp c r) := by
  rw [erase_qc, bigSep_map, sepL7]; rfl
omit [FloatOps F] in
/-- All of them: a device's own, then the others. -/
theorem allA (c : Dev nD) (Φ : Fin 4 → sProp 𝕄) : bigSep Finset.univ Φ = iprop(Φ (zc c) ∗ sepL r3 fun r => Φ (zp c r)) := by
  rw [← othersA]; exact bigSep_erase (Finset.mem_univ (zc c))
omit [FloatOps F] in
theorem allB (c : Dev nD) (Φ : Fin 8 → sProp 𝕄) : bigSep Finset.univ Φ = iprop(Φ (qc c) ∗ sepL r7 fun r => Φ (qp c r)) := by
  rw [← othersB]; exact bigSep_erase (Finset.mem_univ (qc c))

omit [FloatOps F] in
theorem sepL_sep {ι : Type} (l : List ι) (Φ Ψ : ι → sProp 𝕄) : sepL l (fun r => iprop(Φ r ∗ Ψ r)) = iprop(sepL l Φ ∗ sepL l Ψ) := by
  induction l with
  | nil => exact (equiv_iff.mp _root_.Idealize.SL.BI.emp_sep).symm
  | cons r l ih =>
    show iprop((Φ r ∗ Ψ r) ∗ sepL l fun r => iprop(Φ r ∗ Ψ r)) = iprop((Φ r ∗ sepL l Φ) ∗ (Ψ r ∗ sepL l Ψ))
    rw [ih]
    refine Entails.antisymm (?_ : iprop((Φ r ∗ Ψ r) ∗ (sepL l Φ ∗ sepL l Ψ)) ⊢ iprop((Φ r ∗ sepL l Φ) ∗ (Ψ r ∗ sepL l Ψ)))
      (?_ : iprop((Φ r ∗ sepL l Φ) ∗ (Ψ r ∗ sepL l Ψ)) ⊢ iprop((Φ r ∗ Ψ r) ∗ (sepL l Φ ∗ sepL l Ψ)))
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

theorem rest_bar (c : Dev nD) :
    bigSep ((Rd m).duties (cl c (.reg barS)) 0 \ ∅) (fun d => (Rd m).payload (cl c (.reg barS)) 0 d)
      = sepL r3 fun r => iprop(∃ f, pA b1 (mk (zp c r) (qc c)) (zc c) f) := by
  rw [rest_cl, dut_bar, bigSep_map]
  refine (othersA c fun k => pay m c (role (.reg barS)) (e4 k)).trans ?_
  congr 1; funext r
  show iprop(∃ f, pA b1 (mk (lo (e4 (zp c r))) (qc c)) (zc c) f) = _
  rw [lo_e4]
theorem rest_rdy (c : Dev nD) :
    bigSep ((Rd m).duties (cl c (.reg rdyS)) 0 \ ∅) (fun d => (Rd m).payload (cl c (.reg rdyS)) 0 d)
      = sepL r7 fun r => iprop(∃ f, pB b2 (mk (zc c) (qp c r)) (qc c) f) := by
  rw [rest_cl, dut_rdy, othersB]; rfl

/-! ## What is owed -/

abbrev Ent : Type := GSem nD τ sig × ℕ

def ob : List Ent → CellTallies nD τ sig Unit
  | [] => 0
  | x :: l => ob l + tallyAt x.1 () x.2

def pBar (c : Dev nD) (r : Fin 3) : Ent := (cl (mk (zp c r) (qc c)) (.reg barS), 1)
def pSA (c : Dev nD) (r : Fin 3) : Ent := (cl (mk (zp c r) (qc c)) (.dma (rA (zc c))), NA)
def pRdy (c : Dev nD) (r : Fin 7) : Ent := (cl (mk (zc c) (qp c r)) (.reg rdyS), 1)
def pSB (c : Dev nD) (r : Fin 7) : Ent := (cl (mk (zc c) (qp c r)) (.dma (rB (qc c))), NB)

/-- What is still owed from each point on: the whole list, then after the barrier's signals, and so on. -/
def l4 (c : Dev nD) : List Ent := r7.map (pSB c) ++ []
def l3 (c : Dev nD) : List Ent := r7.map (pRdy c) ++ l4 c
def l2 (c : Dev nD) : List Ent := r3.map (pSA c) ++ l3 c
def l1 (c : Dev nD) : List Ent := r3.map (pBar c) ++ l2 c

def O₀ (c : Dev nD) : CellTallies nD τ sig Unit := ob (l1 c)

def L (g : GSem nD τ sig) : Finset Unit := if g.1.2 = .tc then {()} else ∅
def lvl : Role → ℕ
  | .bar => 1 | .recvA _ => 2 | .rdy => 3 | .recvB _ => 4 | _ => 0
def lv (g : GSem nD τ sig) (_ : Unit) : ℕ := lvl (role g.2)

theorem L_of_ne (g : GSem nD τ sig) (h : g.1.2 ≠ .tc) : L g = ∅ := if_neg h
theorem L_cl (c : Dev nD) (sm : SemLoc sig) : L (cl c sm) = {()} := if_pos rfl

theorem ob_pos : ∀ (l : List Ent) (g : GSem nD τ sig) (u : Unit), 0 < ob l g u → ∃ x ∈ l, x.1 = g
  | [], g, u, h => absurd h (Nat.lt_irrefl 0)
  | x :: l, g, u, h => by
    unfold ob at h
    rw [Pi.add_apply, Finsupp.add_apply, tallyAt_apply] at h
    by_cases hx : g = x.1 ∧ u = ()
    · exact ⟨x, List.mem_cons_self, hx.1.symm⟩
    · rw [if_neg hx, Nat.add_zero] at h
      obtain ⟨y, hy, he⟩ := ob_pos l g u h
      exact ⟨y, List.mem_cons_of_mem _ hy, he⟩

omit [FloatOps F] in
/-- A wait may be taken below everything still owed. -/
theorem mayWait_ob (c : Dev nD) (sm : SemLoc sig) (l : List Ent)
    (h : ∀ x ∈ l, x.1.1.2 = .tc ∧ lvl (role sm) < lvl (role x.1.2)) :
    (levAts L lv : sProp 𝕄) ⊢ MayWait (c : Thread nD τ) sm () (ob l) :=
  Pipeline.mayWait_of_levAts (by rw [show L ((c : Thread nD τ), sm) = {()} from L_cl c sm]; exact Finset.mem_singleton_self _) fun g u hg => by
    obtain ⟨x, hx, rfl⟩ := ob_pos l g u hg
    exact ⟨by unfold L; rw [if_pos (h x hx).1]; exact Finset.mem_singleton_self _, (h x hx).2⟩

theorem lev4 (c : Dev nD) : ∀ x ∈ l4 c, x.1.1.2 = .tc ∧ 4 ≤ lvl (role x.1.2) := by
  intro x hx
  rw [l4, List.append_nil] at hx
  obtain ⟨r, -, rfl⟩ := List.mem_map.mp hx
  exact ⟨rfl, by show 4 ≤ lvl (role (.dma (rB (qc c)))); rw [role_rB]; exact Nat.le_refl _⟩
theorem lev3 (c : Dev nD) : ∀ x ∈ l3 c, x.1.1.2 = .tc ∧ 3 ≤ lvl (role x.1.2) := by
  intro x hx
  rcases List.mem_append.mp hx with hx | hx
  · obtain ⟨r, -, rfl⟩ := List.mem_map.mp hx
    exact ⟨rfl, Nat.le_refl _⟩
  · exact ⟨(lev4 c x hx).1, Nat.le_trans (by decide) (lev4 c x hx).2⟩
theorem lev2 (c : Dev nD) : ∀ x ∈ l2 c, x.1.1.2 = .tc ∧ 2 ≤ lvl (role x.1.2) := by
  intro x hx
  rcases List.mem_append.mp hx with hx | hx
  · obtain ⟨r, -, rfl⟩ := List.mem_map.mp hx
    exact ⟨rfl, by show 2 ≤ lvl (role (.dma (rA (zc c)))); rw [role_rA]; exact Nat.le_refl _⟩
  · exact ⟨(lev3 c x hx).1, Nat.le_trans (by decide) (lev3 c x hx).2⟩

end Cert.TwoPhase

end
-- ==== Proof.A2aRules.lean ====
/- One rule per kind of effect of the body, at a symbolic peer, and the rule for a step per peer. -/
module

public import proofs.«01_k».proof.Proof.A2aSched

@[expose] public section

noncomputable section

set_option maxRecDepth 4000

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔼" => TpuEff nD τ sig (Elt F) Λ₀ Proc.tc
local notation "ℙ" => Prog (TpuEff nD τ sig (Elt F) Λ₀ Proc.tc) PUnit

abbrev 𝒱₀ : Variants := Variants.none

/-- The weakest precondition of a program of device `c`'s core. -/
abbrev WP (c : Dev nD) (p : ℙ) (Q : PUnit → sProp 𝕄) : sProp 𝕄 :=
  wp frame (wpE (defs₀ (F := F)) 𝒱₀ (c : Thread nD τ) none) Set.univ p Q

variable (m : (ℓ : Loc nD τ sig) → Buf (Elt F) ℓ) (K : Dev nD × SemLoc sig → ℕ)

/-- What every device may use freely: all cells' invariants, that each has reached its round, the levels. -/
def records : sProp 𝕄 :=
  iprop((bigSep Finset.univ fun p : Dev nD × SemLoc sig => cellInv ER (Rd m) (K p) (cl p.1 p.2))
    ∗ (bigSep Finset.univ fun p : Dev nD × SemLoc sig => reached ER (cl p.1 p.2) 0) ∗ levAts L lv)

instance records_persistent : BI.Persistent (records m K) := by unfold records; infer_instance

theorem inv_at (c : Dev nD) (sm : SemLoc sig) : records m K ⊢ cellInv ER (Rd m) (K (c, sm)) (cl c sm) := by
  unfold records
  iintro ⟨H, -, -⟩
  iapply (show (bigSep Finset.univ fun p : Dev nD × SemLoc sig => (cellInv ER (Rd m) (K p) (cl p.1 p.2) : sProp 𝕄)) ⊢ cellInv ER (Rd m) (K (c, sm)) (cl c sm)
    from bigSep_elim (Finset.mem_univ (c, sm)))
  iexact H
theorem reached_at (c : Dev nD) (sm : SemLoc sig) : records m K ⊢ reached ER (cl c sm) 0 := by
  unfold records
  iintro ⟨-, H, -⟩
  iapply (show (bigSep Finset.univ fun p : Dev nD × SemLoc sig => (reached ER (cl p.1 p.2) 0 : sProp 𝕄)) ⊢ reached ER (cl c sm) 0
    from bigSep_elim (Finset.mem_univ (c, sm)))
  iexact H
/-- What a device still owes, whatever it has waited for. -/
def ow (c : Dev nD) (l : List Ent) : sProp 𝕄 := iprop(∃ W, owes (c : Thread nD τ) (ob l) W)

/-- The token of a duty, a cell's credit, a cell's position. -/
def tok (c : Dev nD) (sm : SemLoc sig) (d : Fin 8) : sProp 𝕄 := dutyTok ER (cl c sm) 0 d
def crd (c : Dev nD) (sm : SemLoc sig) (n : ℕ) : sProp 𝕄 := cred (tallyAt (cl c sm) () n)
def pos (c : Dev nD) (sm : SemLoc sig) (r : ℕ) : sProp 𝕄 := atPos ER (cl c sm) r ∅ 0

theorem may_at (c : Dev nD) (sm : SemLoc sig) (l : List Ent) (hl : ∀ x ∈ l, x.1.1.2 = .tc ∧ lvl (role sm) < lvl (role x.1.2)) :
    records m K ⊢ MayWait (c : Thread nD τ) sm () (ob l) := by
  unfold records
  iintro ⟨-, -, H⟩
  iapply (mayWait_ob c sm l hl)
  iexact H

/-! ## A step per peer -/

omit [FloatOps F] in
theorem sepL_cons {ι : Type} (r : ι) (l : List ι) (Φ : ι → sProp 𝕄) : sepL (r :: l) Φ = iprop(Φ r ∗ sepL l Φ) := rfl
omit [FloatOps F] in
theorem sepL_nil {ι : Type} (Φ : ι → sProp 𝕄) : sepL [] Φ = iprop(emp) := rfl

/-- From one step's rule, the rule for a step per member of a list: `St l` is the state with the members of `l` still to do. -/
theorem wp_steps (c : Dev nD) {ι : Type} (e : ι → 𝔼 PUnit) (R : sProp 𝕄) [BI.Persistent R] (Pre Post : ι → sProp 𝕄) (St : List ι → sProp 𝕄)
    (Q : PUnit → sProp 𝕄)
    (h : ∀ r l (k : ℙ), iprop(R ∗ Pre r ∗ St (r :: l)) ⊢ iprop((Post r ∗ St l -∗ WP c k Q) -∗ WP c (.op (e r) fun _ => k) Q))
    (k : ℙ) : ∀ l, iprop(R ∗ sepL l Pre ∗ St l) ⊢ iprop((sepL l Post ∗ St [] -∗ WP c k Q) -∗ WP c (steps e l k) Q)
  | [] => by
    iintro ⟨-, -, HS⟩ Hk
    unfold steps
    iapply Hk
    isplitr
    · rw [sepL_nil]; iempintro
    iexact HS
  | r :: l => by
    unfold steps
    rw [sepL_cons, sepL_cons]
    iintro ⟨#HR, HP, HS⟩ Hk
    icases HP with ⟨HP, HPs⟩
    iapply (h r l (steps e l k)) $$ [HP HS]
    · isplitr; · iexact HR
      isplitl [HP] <;> iassumption
    iintro ⟨Hq, HS⟩
    iapply (wp_steps c e R Pre Post St Q h k l) $$ [HPs HS]
    · isplitr; · iexact HR
      isplitl [HPs] <;> iassumption
    iintro ⟨Hqs, HS⟩
    iapply Hk
    isplitl [Hq Hqs]
    · isplitl [Hq] <;> iassumption
    iexact HS

/-! ## Waits -/

/-- A wait for a whole round, with something owed. -/
theorem wp_wt (c : Dev nD) (sm : SemLoc sig) (n : ℕ) (w : 𝔼 PUnit) (l : List Ent) (P : sProp 𝕄) (Q : PUnit → sProp 𝕄)
    (hw : ∀ Kt : PUnit → sProp 𝕄, wpE (defs₀ (F := F)) 𝒱₀ (c : Thread nD τ) none Set.univ w Kt = waitSpec (c : Thread nD τ) Set.univ sm n Kt)
    (hn : (Rd m).expect (cl c sm) 0 = n)
    (hl : ∀ x ∈ l, x.1.1.2 = .tc ∧ lvl (role sm) < lvl (role x.1.2))
    (hP : bigSep ((Rd m).duties (cl c sm) 0 \ ∅) (fun d => (Rd m).payload (cl c sm) 0 d) = P) (k : ℙ) :
    iprop(records m K ∗ (crd c sm n ∗ pos c sm 0) ∗ ow c l)
      ⊢ iprop(((P ∗ pos c sm 1) ∗ ow c l -∗ WP c k Q) -∗ WP c (.op w fun _ => k) Q) := by
  subst hP
  iintro ⟨#HR, ⟨Hc, Hp⟩, Ho⟩ Hk
  unfold ow crd pos
  icases Ho with ⟨%W, Ho⟩
  iapply (Rounds.wp_wait_rest_token 𝒱₀ ER (Rd m) (c : Thread nD τ) none (κ := K (c, sm)) (hw) (Set.mem_univ _) () (O := ob l) (W := W)
    (R := 0) (m := 0) (T := ∅) (by rw [hn, Nat.zero_add])) $$ [Hc Ho Hp]
  · isplitr; · iapply (inv_at m K c sm); iexact HR
    isplitl [Hc]; · iexact Hc
    isplitl [Ho]; · iexact Ho
    isplitr; · iapply (may_at m K c sm l hl); iexact HR
    iexact Hp
  iintro ⟨Ho, Hp, -, Hpay⟩
  iapply Hk
  isplitl [Hp Hpay]
  · isplitl [Hpay] <;> iassumption
  iexists _; iexact Ho

/-- A wait on a cell of one duty, by a DMA wait. -/
theorem wp_wt1 (c : Dev nD) (s s' : DmaSem sig) (hs : s' = s) (w : 𝔼 PUnit) (l : List Ent) (Q : PUnit → sProp 𝕄) (n : ℕ)
    (hw : ∀ Kt : PUnit → sProp 𝕄, wpE (defs₀ (F := F)) 𝒱₀ (c : Thread nD τ) none Set.univ w Kt = waitSpec (c : Thread nD τ) Set.univ (.dma s') n Kt)
    (hn : amt (role (.dma s)) = n) (hd : dut c (role (.dma s)) = {0})
    (hl : ∀ x ∈ l, x.1.1.2 = .tc ∧ lvl (role (.dma s)) < lvl (role x.1.2)) (k : ℙ) :
    iprop(records m K ∗ (crd c (.dma s) n ∗ pos c (.dma s) 0) ∗ ow c l)
      ⊢ iprop(((pay m c (role (.dma s)) 0 ∗ pos c (.dma s) 1) ∗ ow c l -∗ WP c k Q) -∗ WP c (.op w fun _ => k) Q) := by
  subst hs
  exact wp_wt m K c (.dma s') n w l _ Q hw ((expect_one m c _ hd).trans hn) hl (rest_one m c _ hd) k

/-! ## Signals -/

theorem wp_sg (c n n' : Dev nD) (hn : n' = n) (s : Sem sig) (d : Fin 8) (l : List Ent) (Q : PUnit → sProp 𝕄)
    (hd : d ∈ dut n (role (.reg s))) (ha : amt (role (.reg s)) = 1) (k : ℙ) :
    iprop(records m K ∗ (tok n (.reg s) d ∗ pay m n (role (.reg s)) d) ∗ ow c ((cl n (.reg s), 1) :: l))
      ⊢ iprop((emp ∗ ow c l -∗ WP c k Q) -∗ WP c (.op (.semSignal (Dev.tc n') s 1) fun _ => k) Q) := by
  subst hn
  iintro ⟨#HR, ⟨Ht, Hp⟩, Ho⟩ Hk
  unfold ow tok
  icases Ho with ⟨%W, Ho⟩
  iapply (Rounds.wp_signal 𝒱₀ ER (Rd m) (c : Thread nD τ) none (dst := (n' : Thread nD τ)) (sem := s) (r := 0) (κ := K (n', .reg s)) (d := d)
    (by rw [duties_cl]; exact hd) ((amount_cl m n' _ 0 d).trans ha) () (ob l) rfl) $$ [Ho Ht Hp]
  · isplitr; · iapply (inv_at m K n' (.reg s)); iexact HR
    isplitl [Ho]; · iexact Ho
    isplitl [Ht]; · iexact Ht
    isplitl [Hp]; · iapply (Entails.of_eq (payload_cl m n' (.reg s) 0 d).symm); iexact Hp
    iapply (reached_at m K n' (.reg s)); iexact HR
  iintro Ho
  iapply Hk
  isplitr; · iempintro
  iexists _; iexact Ho

/-! ## Transfers -/

/-- A transfer to a peer, its source and destination slots named. -/
theorem wp_sd (c n n' : Dev nD) (hn : n' = n) {s : Shape} (src src' dst dst' : Memref sig .tc .vmem s .bf16) (hsrc : src' = src) (hdst : dst' = dst)
    (sS sS' sR sR' : DmaSem sig) (hS : sS' = sS) (hR : sR' = sR) (h₁ : src'.view.WordExact) (h₂ : dst'.view.WordExact)
    (fs : Buf (Elt F) (src.view.loc (c : Thread nD τ))) (fd : Buf (Elt F) (dst.view.loc (n : Thread nD τ)))
    (N : ℕ) (l : List Ent) (Q : PUnit → sProp 𝕄)
    (hdS : dut c (role (.dma sS)) = {0}) (hdR : dut n (role (.dma sR)) = {0})
    (hN : dst.view.dmaCredit = N) (hkS : amt (role (.dma sS)) = N) (hkR : amt (role (.dma sR)) = N)
    (hpS : (src.view.loc (c : Thread nD τ) ↦[src.view.set]{fullShare} fs) ⊢ pay m c (role (.dma sS)) 0)
    (hpR : (dst.view.loc (n : Thread nD τ) ↦[dst.view.set]{fullShare} (dst.view.write (Elt F) fd (src.view.read (Elt F) fs) Finset.univ))
      ⊢ pay m n (role (.dma sR)) 0) (k : ℙ) :
    iprop(records m K ∗ (tok c (.dma sS) 0 ∗ tok n (.dma sR) 0 ∗ (src.view.loc (c : Thread nD τ) ↦[src.view.set]{fullShare} fs)
        ∗ (dst.view.loc (n : Thread nD τ) ↦[dst.view.set]{fullShare} fd)) ∗ ow c ((cl n (.dma sR), N) :: l))
      ⊢ iprop((crd c (.dma sS) N ∗ ow c l -∗ WP c k Q) -∗ WP c (.op (eSnd n' src' dst' sS' sR' h₁ h₂) fun _ => k) Q) := by
  subst hn hsrc hdst hS hR
  iintro ⟨#HR, ⟨HtS, HtR, Hs, Hd⟩, Ho⟩ Hk
  unfold ow tok crd
  icases Ho with ⟨%W, Ho⟩
  iapply (Rounds.wp_send_pointsTo 𝒱₀ ER (Rd m) (c : Thread nD τ) none (c' := (n' : Thread nD τ)) (src := src') (dst := dst')
    (κ₁ := K (c, .dma sS')) (κ₂ := K (n', .dma sR')) (r₁ := 0) (r₂ := 0) (d₁ := 0) (d₂ := 0) (fs := fs) (fd := fd) (q := fullShare)
    (mem_one m c _ hdS) (mem_one m n' _ hdR) () () N hN ((amount_cl m c _ 0 0).trans hkS) ((amount_cl m n' _ 0 0).trans hkR) (ob l) rfl (W := W)
    hpS hpR) $$ [HtS HtR Hs Hd Ho]
  · isplitr; · iapply (inv_at m K c (.dma sS')); iexact HR
    isplitr; · iapply (inv_at m K n' (.dma sR')); iexact HR
    isplitl [Hs]; · iexact Hs
    isplitl [Hd]; · iexact Hd
    isplitl [Ho]; · iexact Ho
    isplitl [HtS]; · iexact HtS
    isplitr; · iapply (reached_at m K c (.dma sS')); iexact HR
    isplitl [HtR]; · iexact HtR
    iapply (reached_at m K n' (.dma sR')); iexact HR
  iintro ⟨Hc, Ho⟩
  iapply Hk
  isplitl [Hc]; · iexact Hc
  iexists _; iexact Ho

/-- A copy within the device. -/
theorem wp_cp (c : Dev nD) {sp sp' : Space} {s : Shape} {e : EltTy} (src : Memref sig .tc sp s e) (dst : Memref sig .tc sp' s e) (sm : DmaSem sig)
    {hsrc : src.view.WordExact} {hdst : dst.view.WordExact} {hsem : DmaTarget.Typed (nD := nD) (τ := τ) (p := Proc.tc) sp (.dma sm) (.here dst)}
    (fs : Buf (Elt F) (src.view.loc (c : Thread nD τ))) (fd : Buf (Elt F) (dst.view.loc (c : Thread nD τ)))
    (N : ℕ) (Q : PUnit → sProp 𝕄) (hd : dut c (role (.dma sm)) = {0}) (hN : dst.view.dmaCredit = N) (hk : amt (role (.dma sm)) = N)
    (hp : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay m c (role (.dma sm)) 0) (k : ℙ) :
    iprop(records m K ∗ tok c (.dma sm) 0 ∗ (src.view.loc (c : Thread nD τ) ↦[src.view.set]{fullShare} fs)
        ∗ (dst.view.loc (c : Thread nD τ) ↦[dst.view.set]{fullShare} fd))
      ⊢ iprop((crd c (.dma sm) N -∗ WP c k Q) -∗ WP c (.op (.enqueueDma src (.here dst) (.dma sm) hsrc hdst hsem) fun _ => k) Q) := by
  iintro ⟨#HR, Ht, Hs, Hd⟩ Hk
  unfold tok crd
  iapply (Rounds.wp_copy_pointsTo 𝒱₀ ER (Rd m) (c : Thread nD τ) none (src := src) (dst := dst) (sem := .dma sm) (κ := K (c, .dma sm)) (r := 0) (d := 0)
    (q := fullShare) (fs := fs) (fd := fd) (mem_one m c _ hd) () N hN ((amount_cl m c _ 0 0).trans hk) hp) $$ [Ht Hs Hd]
  · isplitr; · iapply (inv_at m K c (.dma sm)); iexact HR
    isplitl [Hs]; · iexact Hs
    isplitl [Hd]; · iexact Hd
    isplitl [Ht]; · iexact Ht
    iapply (reached_at m K c (.dma sm)); iexact HR
  iexact Hk

end Cert.TwoPhase

end
-- ==== Proof.A2aPhases.lean ====
/- The eight peer loops of the body: signals, transfers and waits, each as one rule. -/
module

public import proofs.«01_k».proof.Proof.A2aRules

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔼" => TpuEff nD τ sig (Elt F) Λ₀ Proc.tc
local notation "ℙ" => Prog (TpuEff nD τ sig (Elt F) Λ₀ Proc.tc) PUnit

variable (m : (ℓ : Loc nD τ sig) → Buf (Elt F) ℓ) (K : Dev nD × SemLoc sig → ℕ)

/-- The device of `c`'s column at its peer `r`; of its row. -/
abbrev na (c : Dev nD) (r : Fin 3) : Dev nD := mk (zp c r) (qc c)
abbrev nb (c : Dev nD) (r : Fin 7) : Dev nD := mk (zc c) (qp c r)

/-! ## The duties' payloads at the peers -/

theorem pay_bar (c : Dev nD) (r : Fin 3) : pay m (na c r) (role (.reg barS)) (e4 (zc c)) = iprop(∃ f, pA b1 c (zp c r) f) := by
  show iprop(∃ f, pA b1 (mk (lo (e4 (zc c))) (qc (mk (zp c r) (qc c)))) (zc (mk (zp c r) (qc c))) f) = _
  rw [lo_e4, qc_mk, zc_mk, mk_eta]
theorem pay_rdy (c : Dev nD) (r : Fin 7) : pay m (nb c r) (role (.reg rdyS)) (qc c) = iprop(∃ f, pB b2 c (qp c r) f) := by
  show iprop(∃ f, pB b2 (mk (zc (mk (zc c) (qp c r))) (qc c)) (qc (mk (zc c) (qp c r))) f) = _
  rw [qc_mk, zc_mk, mk_eta]
theorem pay_sA (c : Dev nD) (k : Fin 4) (d : Fin 8) : pay m c (role (.dma (sA k))) d = pA b0 c k (SB m c) := by rw [role_sA]; rfl
theorem pay_rA (c : Dev nD) (k : Fin 4) (d : Fin 8) : pay m c (role (.dma (rA k))) d = pA b1 c k (RA m c) := by rw [role_rA]; rfl
theorem pay_sB (c : Dev nD) (k : Fin 8) (d : Fin 8) : pay m c (role (.dma (sB k))) d = pB b1 c k (RA m c) := by rw [role_sB]; rfl
theorem pay_rB (c : Dev nD) (k : Fin 8) (d : Fin 8) : pay m c (role (.dma (rB k))) d = pB b2 c k (RB m c) := by rw [role_rB]; rfl

theorem mem_bar (c : Dev nD) (r : Fin 3) : e4 (zc c) ∈ dut (na c r) (role (.reg barS)) := by
  rw [dut_bar, zc_mk]
  exact Finset.mem_map.mpr ⟨zc c, Finset.mem_erase.mpr ⟨(zp_ne c r).symm, Finset.mem_univ _⟩, rfl⟩
theorem mem_rdy (c : Dev nD) (r : Fin 7) : qc c ∈ dut (nb c r) (role (.reg rdyS)) := by
  rw [dut_rdy, qc_mk]
  exact Finset.mem_erase.mpr ⟨(qp_ne c r).symm, Finset.mem_univ _⟩
theorem dut_na (c : Dev nD) (r : Fin 3) : dut (na c r) (role (.dma (rA (zc c)))) = {0} :=
  dut_rA _ _ (by rw [zc_mk]; exact (zp_ne c r).symm)
theorem dut_nb (c : Dev nD) (r : Fin 7) : dut (nb c r) (role (.dma (rB (qc c)))) = {0} :=
  dut_rB _ _ (by rw [qc_mk]; exact (qp_ne c r).symm)

theorem amt_sA (k : Fin 4) : amt (role (.dma (sA k))) = NA := by rw [role_sA]; rfl
theorem amt_rA (k : Fin 4) : amt (role (.dma (rA k))) = NA := by rw [role_rA]; rfl
theorem amt_sB (k : Fin 8) : amt (role (.dma (sB k))) = NB := by rw [role_sB]; rfl
theorem amt_rB (k : Fin 8) : amt (role (.dma (rB k))) = NB := by rw [role_rB]; rfl

/-! ## The loops -/

section Loops
variable (c : Dev nD) (l : List Ent)

/-- What each loop consumes per peer. -/
def preBar (r : Fin 3) : sProp 𝕄 := iprop(tok (na c r) (.reg barS) (e4 (zc c)) ∗ ∃ f, pA b1 c (zp c r) f)
def preRdy (r : Fin 7) : sProp 𝕄 := iprop(tok (nb c r) (.reg rdyS) (qc c) ∗ ∃ f, pB b2 c (qp c r) f)
def tokSA (r : Fin 3) : sProp 𝕄 := iprop(tok c (.dma (sA (zp c r))) 0 ∗ tok (na c r) (.dma (rA (zc c))) 0)
def tokSB (r : Fin 7) : sProp 𝕄 := iprop(tok c (.dma (sB (qp c r))) 0 ∗ tok (nb c r) (.dma (rB (qc c))) 0)
def preSA (r : Fin 3) : sProp 𝕄 := iprop(tokSA c r ∗ pA b0 c (zp c r) (SB m c) ∗ ∃ f, pA b1 (na c r) (zc c) f)
def preSB (r : Fin 7) : sProp 𝕄 := iprop(tokSB c r ∗ pB b1 c (qp c r) (RA m c) ∗ ∃ f, pB b2 (nb c r) (qc c) f)

theorem ph_bar (Q : PUnit → sProp 𝕄) (k : ℙ) :
    iprop(records m K ∗ sepL r3 (preBar c) ∗ ow c (r3.map (pBar c) ++ l))
      ⊢ iprop((sepL r3 (fun _ => iprop(emp)) ∗ ow c l -∗ WP c k Q) -∗ WP c (steps (eBar c) r3 k) Q) :=
  wp_steps c (eBar c) (records m K) (preBar c) (fun _ => iprop(emp)) (fun rs => ow c (rs.map (pBar c) ++ l)) Q
    (fun r rs k => by
      unfold preBar
      rw [← pay_bar m c r]
      exact wp_sg m K c (na c r) _ (dvBar_eq c r) barS (e4 (zc c)) (rs.map (pBar c) ++ l) Q (mem_bar c r) rfl k) k r3

theorem ph_rdy (Q : PUnit → sProp 𝕄) (k : ℙ) :
    iprop(records m K ∗ sepL r7 (preRdy c) ∗ ow c (r7.map (pRdy c) ++ l))
      ⊢ iprop((sepL r7 (fun _ => iprop(emp)) ∗ ow c l -∗ WP c k Q) -∗ WP c (steps (eRdy c) r7 k) Q) :=
  wp_steps c (eRdy c) (records m K) (preRdy c) (fun _ => iprop(emp)) (fun rs => ow c (rs.map (pRdy c) ++ l)) Q
    (fun r rs k => by
      unfold preRdy
      rw [← pay_rdy m c r]
      exact wp_sg m K c (nb c r) _ (dvRdy_eq c r) rdyS (qc c) (rs.map (pRdy c) ++ l) Q (mem_rdy c r) rfl k) k r7

theorem ph_SA (Q : PUnit → sProp 𝕄) (k : ℙ) :
    iprop(records m K ∗ sepL r3 (preSA m c) ∗ ow c (r3.map (pSA c) ++ l))
      ⊢ iprop((sepL r3 (fun r => crd c (.dma (sA (zp c r))) NA) ∗ ow c l -∗ WP c k Q) -∗ WP c (steps (eSA c) r3 k) Q) :=
  wp_steps c (eSA c) (records m K) (preSA m c) (fun r => crd c (.dma (sA (zp c r))) NA) (fun rs => ow c (rs.map (pSA c) ++ l)) Q
    (fun r rs k => by
      unfold preSA tokSA
      iintro ⟨#HR, ⟨⟨Ht, Ht'⟩, Hs, %f, Hd⟩, Ho⟩
      iapply (wp_sd m K c (na c r) _ (dvA_eq c r) (slA b0 (zp c r)) _ (slA b1 (zc c)) _ (kA4_eq b0 c r) (kA3_eq b1 c) _ _ _ _ (kSA_eq c r)
        (kRAown_eq c) _ _ (SB m c) f NA (rs.map (pSA c) ++ l) Q (dut_sA c _ (zp_ne c r)) (dut_na c r) rfl (amt_sA _) (amt_rA _)
        (by rw [pay_sA]; exact Entails.refl _)
        (by rw [pay_rA]; exact Entails.of_eq (landA_pts m c (zp c r) f _ fun _ => rfl)) k)
      isplitr; · iexact HR
      isplitl [Ht Ht' Hs Hd]
      · isplitl [Ht]; · iexact Ht
        isplitl [Ht']; · iexact Ht'
        isplitl [Hs]
        · unfold pA; iexact Hs
        unfold pA; iexact Hd
      iexact Ho) k r3

theorem ph_SB (Q : PUnit → sProp 𝕄) (k : ℙ) :
    iprop(records m K ∗ sepL r7 (preSB m c) ∗ ow c (r7.map (pSB c) ++ l))
      ⊢ iprop((sepL r7 (fun r => crd c (.dma (sB (qp c r))) NB) ∗ ow c l -∗ WP c k Q) -∗ WP c (steps (eSB c) r7 k) Q) :=
  wp_steps c (eSB c) (records m K) (preSB m c) (fun r => crd c (.dma (sB (qp c r))) NB) (fun rs => ow c (rs.map (pSB c) ++ l)) Q
    (fun r rs k => by
      unfold preSB tokSB
      iintro ⟨#HR, ⟨⟨Ht, Ht'⟩, Hs, %f, Hd⟩, Ho⟩
      iapply (wp_sd m K c (nb c r) _ (dvB_eq c r) (slB b1 (qp c r)) _ (slB b2 (qc c)) _ (kB9_eq b1 c r) (kB8_eq b2 c) _ _ _ _ (kSB_eq c r)
        (kRBown_eq c) _ _ (RA m c) f NB (rs.map (pSB c) ++ l) Q (dut_sB c _ (qp_ne c r)) (dut_nb c r) rfl (amt_sB _) (amt_rB _)
        (by rw [pay_sB]; exact Entails.refl _)
        (by rw [pay_rB]; exact Entails.of_eq (landB_pts m c (qp c r) f _ fun _ => rfl)) k)
      isplitr; · iexact HR
      isplitl [Ht Ht' Hs Hd]
      · isplitl [Ht]; · iexact Ht
        isplitl [Ht']; · iexact Ht'
        isplitl [Hs]
        · unfold pB; iexact Hs
        unfold pB; iexact Hd
      iexact Ho) k r7

theorem ph_RA (Q : PUnit → sProp 𝕄) (k : ℙ) (hl : ∀ x ∈ l, x.1.1.2 = .tc ∧ 2 < lvl (role x.1.2)) :
    iprop(records m K ∗ sepL r3 (fun r => iprop(crd c (.dma (rA (zp c r))) NA ∗ pos c (.dma (rA (zp c r))) 0)) ∗ ow c l)
      ⊢ iprop((sepL r3 (fun r => iprop(pA b1 c (zp c r) (RA m c) ∗ pos c (.dma (rA (zp c r))) 1)) ∗ ow c l -∗ WP c k Q) -∗ WP c (steps (eRA c) r3 k) Q) :=
  wp_steps c (eRA c) (records m K) _ _ (fun _ => ow c l) Q
    (fun r rs k => by
      have h := wp_wt1 m K c (rA (zp c r)) _ (kRA_eq c r) (eRA c r) l Q NA (wpE_waitDma2_eq 𝒱₀ (c : Thread nD τ) none Set.univ)
        (amt_rA _) (dut_rA c _ (zp_ne c r)) (by rw [role_rA]; exact hl) k
      rw [pay_rA] at h
      exact h) k r3

theorem ph_RB (Q : PUnit → sProp 𝕄) (k : ℙ) (hl : ∀ x ∈ l, x.1.1.2 = .tc ∧ 4 < lvl (role x.1.2)) :
    iprop(records m K ∗ sepL r7 (fun r => iprop(crd c (.dma (rB (qp c r))) NB ∗ pos c (.dma (rB (qp c r))) 0)) ∗ ow c l)
      ⊢ iprop((sepL r7 (fun r => iprop(pB b2 c (qp c r) (RB m c) ∗ pos c (.dma (rB (qp c r))) 1)) ∗ ow c l -∗ WP c k Q) -∗ WP c (steps (eRB c) r7 k) Q) :=
  wp_steps c (eRB c) (records m K) _ _ (fun _ => ow c l) Q
    (fun r rs k => by
      have h := wp_wt1 m K c (rB (qp c r)) _ (kRB_eq c r) (eRB c r) l Q NB (wpE_waitDma2_eq 𝒱₀ (c : Thread nD τ) none Set.univ)
        (amt_rB _) (dut_rB c _ (qp_ne c r)) (by rw [role_rB]; exact hl) k
      rw [pay_rB] at h
      exact h) k r7

theorem ph_FA (Q : PUnit → sProp 𝕄) (k : ℙ) (hl : ∀ x ∈ l, x.1.1.2 = .tc ∧ 0 < lvl (role x.1.2)) :
    iprop(records m K ∗ sepL r3 (fun r => iprop(crd c (.dma (sA (zp c r))) NA ∗ pos c (.dma (sA (zp c r))) 0)) ∗ ow c l)
      ⊢ iprop((sepL r3 (fun r => iprop(pA b0 c (zp c r) (SB m c) ∗ pos c (.dma (sA (zp c r))) 1)) ∗ ow c l -∗ WP c k Q) -∗ WP c (steps (eFA c) r3 k) Q) :=
  wp_steps c (eFA c) (records m K) _ _ (fun _ => ow c l) Q
    (fun r rs k => by
      have h := wp_wt1 m K c (sA (zp c r)) _ (kSA_eq c r) (eFA c r) l Q NA (wpE_waitDma2_eq 𝒱₀ (c : Thread nD τ) none Set.univ)
        (amt_sA _) (dut_sA c _ (zp_ne c r)) (by rw [role_sA]; exact hl) k
      rw [pay_sA] at h
      exact h) k r3

theorem ph_FB (Q : PUnit → sProp 𝕄) (k : ℙ) (hl : ∀ x ∈ l, x.1.1.2 = .tc ∧ 0 < lvl (role x.1.2)) :
    iprop(records m K ∗ sepL r7 (fun r => iprop(crd c (.dma (sB (qp c r))) NB ∗ pos c (.dma (sB (qp c r))) 0)) ∗ ow c l)
      ⊢ iprop((sepL r7 (fun r => iprop(pB b1 c (qp c r) (RA m c) ∗ pos c (.dma (sB (qp c r))) 1)) ∗ ow c l -∗ WP c k Q) -∗ WP c (steps (eFB c) r7 k) Q) :=
  wp_steps c (eFB c) (records m K) _ _ (fun _ => ow c l) Q
    (fun r rs k => by
      have h := wp_wt1 m K c (sB (qp c r)) _ (kSB_eq c r) (eFB c r) l Q NB (wpE_waitDma2_eq 𝒱₀ (c : Thread nD τ) none Set.univ)
        (amt_sB _) (dut_sB c _ (qp_ne c r)) (by rw [role_sB]; exact hl) k
      rw [pay_sB] at h
      exact h) k r7

end Loops

end Cert.TwoPhase

end
-- ==== Proof.A2aBody.lean ====
/- The body in five parts, last part first: each from what it consumes to what the rest of the body gets. -/
module

public import proofs.«01_k».proof.Proof.A2aPhases
public import Idealize.ShloMosaic.Lib.Pipeline.Value

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝔼" => TpuEff nD τ sig (Elt F) Λ₀ Proc.tc
local notation "ℙ" => Prog (TpuEff nD τ sig (Elt F) Λ₀ Proc.tc) PUnit

variable (m : (ℓ : Loc nD τ sig) → Buf (Elt F) ℓ) (K : Dev nD × SemLoc sig → ℕ)

/-! ## What the loads read and the stores leave -/

theorem hz2 : (![0, 0] : Fin 2 → Nat) = fun _ => 0 := funext fun a => by fin_cases a <;> rfl
theorem hz4 : (![0, 0, 0, 0] : Fin 4 → Nat) = fun _ => 0 := funext fun a => by fin_cases a <;> rfl

omit [FloatOps F] in
theorem rd_x (f : (cc0_scratch4 : Ref sig .tc).ty.Contents (Elt F)) : bx.view.readAt (Elt F) allx.toLoadRect f = f :=
  Memref.readAt_unit_zero (Elt F) cc0_scratch4 hz2 _ f
omit [FloatOps F] in
theorem rd_w (f : (cc0_scratch3 : Ref sig .tc).ty.Contents (Elt F)) : bw.view.readAt (Elt F) allw.toLoadRect f = f :=
  Memref.readAt_unit_zero (Elt F) cc0_scratch3 hz2 _ f
omit [FloatOps F] in
theorem rd_b2 (f : (cc0_scratch2 : Ref sig .tc).ty.Contents (Elt F)) : b2.view.readAt (Elt F) all4.toLoadRect f = f :=
  Memref.readAt_unit_zero (Elt F) cc0_scratch2 hz4 _ f
omit [FloatOps F] in
theorem wr_b0 (f w : (cc0_scratch0 : Ref sig .tc).ty.Contents (Elt F)) :
    (b0.access all4 : View sig .tc _ _ _).write (Elt F) f w Finset.univ = w :=
  Memref.write_access_unit_zero_univ (Elt F) cc0_scratch0 hz4 _ f w
omit [FloatOps F] in
theorem wr_y (f w : (cc0_scratch5 : Ref sig .tc).ty.Contents (Elt F)) :
    (by'.access ally : View sig .tc _ _ _).write (Elt F) f w Finset.univ = w :=
  Memref.write_access_unit_zero_univ (Elt F) cc0_scratch5 hz2 _ f w

omit [FloatOps F] in
theorem pts_w (c : Dev nD) (b : Ref sig .tc) (f : Buf (Elt F) ((c : Thread nD τ).loc b)) :
    ((Memref.whole b).view.loc (c : Thread nD τ) ↦[(Memref.whole b).view.set]{fullShare} f : sProp 𝕄) = whl c b f := by
  unfold whl; simp only [Memref.view_whole, View.set_whole]
omit [FloatOps F] in
theorem cp_x (f g : (main_arg0 : Ref sig .tc).ty.Contents (Elt F)) : bx.view.write (Elt F) g (ax.view.read (Elt F) f) Finset.univ = f :=
  View.write_whole_univ cc0_scratch4 g f
omit [FloatOps F] in
theorem cp_w (f g : (main_arg1 : Ref sig .tc).ty.Contents (Elt F)) : bw.view.write (Elt F) g (aw.view.read (Elt F) f) Finset.univ = f :=
  View.write_whole_univ cc0_scratch3 g f
omit [FloatOps F] in
theorem cp_o (f g : (main_v1 : Ref sig .tc).ty.Contents (Elt F)) : ao.view.write (Elt F) g (by'.view.read (Elt F) f) Finset.univ = f :=
  View.write_whole_univ main_v1 g f

/-- A device's own slot, through the rectangle of its accesses. -/
theorem own0 (c : Dev nD) : b0.view.setOn (ownA c).toLoadRect.set ⊆ (slA b0 (zc c)).view.set := by
  rw [show (slA b0 (zc c)).view.set = b0.view.setOn (recA (zc c)).set from View.set_slice _ _, ← ownA_eq]
theorem own1 (c : Dev nD) : b1.view.setOn (ownA c).toLoadRect.set ⊆ (slA b1 (zc c)).view.set := by
  rw [show (slA b1 (zc c)).view.set = b1.view.setOn (recA (zc c)).set from View.set_slice _ _, ← ownA_eq]
theorem own1B (c : Dev nD) : b1.view.setOn (ownB c).toLoadRect.set ⊆ (slB b1 (qc c)).view.set := by
  rw [show (slB b1 (qc c)).view.set = b1.view.setOn (recB (qc c)).set from View.set_slice _ _, ← ownB_eq]
theorem own2B (c : Dev nD) : b2.view.setOn (ownB c).toLoadRect.set ⊆ (slB b2 (qc c)).view.set := by
  rw [show (slB b2 (qc c)).view.set = b2.view.setOn (recB (qc c)).set from View.set_slice _ _, ← ownB_eq]

/-- Storing its own row, a device leaves there what phase A leaves in the others. -/
theorem storeA (d : Dev nD) (off : Fin 4 → Nat) (h : off = ![(zc d).val, 0, 0, 0])
    (hb : ∀ a, off a + S1x8x32x32.size a ≤ S4x8x32x32.size a) (fd : V4 F) (i : S4x8x32x32.Idx) (hi : i ∈ (slA b1 (zc d)).view.set) :
    (b1.access (Rect.unit (s := S4x8x32x32) off S1x8x32x32.size hb)).write (Elt F) fd
      (k0_pay2 (b0.view.readAt (Elt F) (Rect.unit (s := S4x8x32x32) off S1x8x32x32.size hb).toLoadRect (SB m d))) Finset.univ i = RA m d i := by
  subst h
  have := landA m d (zc d) fd (k0_pay2 (b0.view.readAt (Elt F) (recA (zc d)).toLoadRect (SB m d)))
    (fun x => by unfold k0_pay2; rw [shapeCast_self]; rfl) i hi
  rw [mk_eta] at this
  exact this
theorem storeB (d : Dev nD) (off : Fin 4 → Nat) (h : off = ![0, (qc d).val, 0, 0])
    (hb : ∀ a, off a + S4x1x32x32.size a ≤ S4x8x32x32.size a) (fd : V4 F) (i : S4x8x32x32.Idx) (hi : i ∈ (slB b2 (qc d)).view.set) :
    (b2.access (Rect.unit (s := S4x8x32x32) off S4x1x32x32.size hb)).write (Elt F) fd
      (k0_pay3 (b1.view.readAt (Elt F) (Rect.unit (s := S4x8x32x32) off S4x1x32x32.size hb).toLoadRect (RA m d))) Finset.univ i = RB m d i := by
  subst h
  have := landB m d (qc d) fd (k0_pay3 (b1.view.readAt (Elt F) (recB (qc d)).toLoadRect (RA m d)))
    (fun x => by unfold k0_pay3; rw [shapeCast_self]; rfl) i hi
  rw [mk_eta] at this
  exact this

theorem storeA_pts (c : Dev nD) (fd : V4 F) :
    pA b1 c (zc c) ((b1.access (ownA c)).write (Elt F) fd (k0_pay2 (b0.view.readAt (Elt F) (ownA c).toLoadRect (SB m c))) Finset.univ) = pA b1 c (zc c) (RA m c) :=
  pointsTo_congr fun i hi => storeA m c _ (off5_eq c) _ fd i hi
theorem storeB_pts (c : Dev nD) (fd : V4 F) :
    pB b2 c (qc c) ((b2.access (ownB c)).write (Elt F) fd (k0_pay3 (b1.view.readAt (Elt F) (ownB c).toLoadRect (RA m c))) Finset.univ) = pB b2 c (qc c) (RB m c) :=
  pointsTo_congr fun i hi => storeB m c _ (off10_eq c) _ fd i hi

/-! ## The parts -/

section Parts
variable (c : Dev nD)

/-- A cell's whole credit with its position. -/
def cp (sm : SemLoc sig) (n : ℕ) : sProp 𝕄 := iprop(crd c sm n ∗ pos c sm 0)

theorem wp_fin (Q : PUnit → sProp 𝕄) : iprop(|={Set.univ}=> Q ⟨⟩) ⊢ WP c (.ret ⟨⟩) Q := by
  unfold WP; rw [wp_ret]

theorem part_fin (Q : PUnit → sProp 𝕄) :
    iprop(records m K ∗ ow c []
        ∗ sepL r3 (fun r => iprop(crd c (.dma (sA (zp c r))) NA ∗ pos c (.dma (sA (zp c r))) 0))
        ∗ sepL r7 (fun r => iprop(crd c (.dma (sB (qp c r))) NB ∗ pos c (.dma (sB (qp c r))) 0))
        ∗ ((sepL r3 (fun r => iprop(pA b0 c (zp c r) (SB m c) ∗ pos c (.dma (sA (zp c r))) 1))
            ∗ sepL r7 (fun r => iprop(pB b1 c (qp c r) (RA m c) ∗ pos c (.dma (sB (qp c r))) 1)) ∗ ow c []) -∗ |={Set.univ}=> Q ⟨⟩))
      ⊢ WP c (progFin c) Q := by
  unfold progFin
  iintro ⟨#HR, Ho, HA, HB, Hk⟩
  iapply (ph_FA m K c [] Q _ (fun x hx => absurd hx List.not_mem_nil)) $$ [Ho HA]
  · isplitr; · iexact HR
    isplitl [HA] <;> iassumption
  iintro ⟨HA, Ho⟩
  iapply (ph_FB m K c [] Q _ (fun x hx => absurd hx List.not_mem_nil)) $$ [Ho HB]
  · isplitr; · iexact HR
    isplitl [HB] <;> iassumption
  iintro ⟨HB, Ho⟩
  iapply (wp_fin c Q)
  iapply Hk
  isplitl [HA]; · iexact HA
  isplitl [HB] <;> iassumption

theorem part_out (Q : PUnit → sProp 𝕄) :
    iprop(records m K ∗ ow c [] ∗ whl c cc0_scratch2 (RB m c) ∗ (crd c (.dma wS) NW ∗ pos c (.dma wS) 0) ∗ (tok c (.dma oS) 0 ∗ pos c (.dma oS) 0)
        ∗ (∃ f, whl c cc0_scratch5 f) ∗ (∃ f, whl c main_v1 f)
        ∗ ((whl c cc0_scratch2 (RB m c) ∗ whl c cc0_scratch3 (m ((c : Thread nD τ).loc main_arg1)) ∗ whl c main_arg1 (m ((c : Thread nD τ).loc main_arg1))
            ∗ whl c main_v1 (outAt m c) ∗ whl c cc0_scratch5 (outAt m c) ∗ pos c (.dma wS) 1 ∗ pos c (.dma oS) 1 ∗ ow c []) -∗ WP c (progFin c) Q))
      ⊢ WP c (progOut c) Q := by
  unfold progOut
  iintro ⟨#HR, Ho, H2, Hw, ⟨Hot, Hop⟩, ⟨%f5, H5⟩, ⟨%fo, Hv⟩, Hk⟩
  unfold whl
  iapply (wp_load 𝒱₀ (c : Thread nD τ) none Set.univ (m := b2) (Finset.subset_univ _)) $$ H2; iintro H2
  rw [rd_b2]
  iapply (wp_wt1 m K c wS _ rfl _ [] Q NW (wpE_waitDma2_eq 𝒱₀ (c : Thread nD τ) none Set.univ) rfl rfl (fun x hx => absurd hx List.not_mem_nil)) $$ [Hw Ho]
  · isplitr; · iexact HR
    isplitl [Hw] <;> iassumption
  rw [show pay m c (role (.dma wS)) 0 = iprop(whl c cc0_scratch3 (m ((c : Thread nD τ).loc main_arg1)) ∗ whl c main_arg1 (m ((c : Thread nD τ).loc main_arg1))) from rfl]
  unfold whl
  iintro ⟨⟨⟨H3, Ha1⟩, Hwp⟩, Ho⟩
  iapply (wp_load 𝒱₀ (c : Thread nD τ) none Set.univ (m := bw) (Finset.subset_univ _)) $$ H3; iintro H3
  rw [rd_w]
  iapply (wp_load 𝒱₀ (c : Thread nD τ) none Set.univ (m := by') (Finset.subset_univ _)) $$ H5; iintro H5
  iapply (wp_store 𝒱₀ (c : Thread nD τ) none Set.univ (m := by') (r := ally) (Mk := Finset.univ) (Finset.subset_univ _)) $$ H5; iintro H5
  rw [wr_y]
  iapply (wp_cp m K c by' ao oS (outAt m c) fo NO Q rfl rfl rfl
    (Entails.of_eq (by
      rw [cp_o]
      exact congrArg₂ _ (pts_w c main_v1 _) (pts_w c cc0_scratch5 _)))) $$ [Hot H5 Hv]
  · isplitr; · iexact HR
    isplitl [Hot]; · iexact Hot
    isplitl [H5]; · iapply (Entails.of_eq (pts_w c cc0_scratch5 _).symm); unfold whl; iexact H5
    iapply (Entails.of_eq (pts_w c main_v1 _).symm); unfold whl; iexact Hv
  iintro Hoc
  iapply (wp_wt1 m K c oS _ rfl _ [] Q NO (wpE_waitDma2_eq 𝒱₀ (c : Thread nD τ) none Set.univ) rfl rfl (fun x hx => absurd hx List.not_mem_nil)) $$ [Hoc Hop Ho]
  · isplitr; · iexact HR
    isplitl [Hoc Hop]
    · isplitl [Hoc] <;> iassumption
    iexact Ho
  rw [show pay m c (role (.dma oS)) 0 = iprop(whl c main_v1 (outAt m c) ∗ whl c cc0_scratch5 (outAt m c)) from rfl]
  unfold whl
  iintro ⟨⟨⟨Hv, H5⟩, Hop⟩, Ho⟩
  iapply Hk
  isplitl [H2]; · iexact H2
  isplitl [H3]; · iexact H3
  isplitl [Ha1]; · iexact Ha1
  isplitl [Hv]; · iexact Hv
  isplitl [H5]; · iexact H5
  isplitl [Hwp]; · iexact Hwp
  isplitl [Hop] <;> iassumption

theorem part_B (Q : PUnit → sProp 𝕄) :
    iprop(records m K ∗ ow c (l4 c) ∗ (crd c (.reg rdyS) 7 ∗ pos c (.reg rdyS) 0) ∗ sepL r7 (tokSB c) ∗ whl c cc0_scratch1 (RA m c)
        ∗ (∃ f, pB b2 c (qc c) f) ∗ sepL r7 (fun r => iprop(crd c (.dma (rB (qp c r))) NB ∗ pos c (.dma (rB (qp c r))) 0))
        ∗ ((pos c (.reg rdyS) 1 ∗ pB b1 c (qc c) (RA m c) ∗ sepL r7 (fun r => crd c (.dma (sB (qp c r))) NB) ∗ whl c cc0_scratch2 (RB m c)
            ∗ sepL r7 (fun r => pos c (.dma (rB (qp c r))) 1) ∗ ow c []) -∗ WP c (progOut c) Q))
      ⊢ WP c (progB c) Q := by
  unfold progB
  iintro ⟨#HR, Ho, Hr, Ht, H1, ⟨%f2, H2⟩, Hv, Hk⟩
  iapply (wp_wt m K c (.reg rdyS) 7 _ (l4 c) _ Q (wpE_semWait_eq 𝒱₀ (c : Thread nD τ) none Set.univ) (expect_rdy m c)
    (fun x hx => ⟨(lev4 c x hx).1, Nat.lt_of_lt_of_le (by decide) (lev4 c x hx).2⟩) (rest_rdy m c)) $$ [Hr Ho]
  · isplitr; · iexact HR
    isplitl [Hr] <;> iassumption
  iintro ⟨⟨Hd, Hrp⟩, Ho⟩
  ihave H1 := (Entails.of_eq (show whl c cc0_scratch1 (RA m c) = iprop(pB b1 c (qc c) (RA m c) ∗ sepL r7 fun r => pB b1 c (qp c r) (RA m c)) from (split1B c _).trans (allB c _))) $$ H1
  icases H1 with ⟨H1, H1s⟩
  ihave Hpre := (Entails.of_eq (show iprop(sepL r7 (tokSB c) ∗ (sepL r7 (fun r => pB b1 c (qp c r) (RA m c))
      ∗ sepL r7 (fun r => iprop(∃ f, pB b2 (nb c r) (qc c) f)))) = sepL r7 (preSB m c) from by unfold preSB; rw [sepL_sep, sepL_sep])) $$ [Ht H1s Hd]
  · isplitl [Ht]; · iexact Ht
    isplitl [H1s] <;> iassumption
  iapply (ph_SB m K c [] Q) $$ [Hpre Ho]
  · isplitr; · iexact HR
    isplitl [Hpre]; · iexact Hpre
    iexact Ho
  iintro ⟨Hcs, Ho⟩
  unfold pB
  iapply (wp_load 𝒱₀ (c : Thread nD τ) none Set.univ (m := b1) (own1B c)) $$ H1; iintro H1
  iapply (wp_load 𝒱₀ (c : Thread nD τ) none Set.univ (m := b2) (own2B c)) $$ H2; iintro H2
  iapply (wp_store 𝒱₀ (c : Thread nD τ) none Set.univ (m := b2) (r := ownB c) (Mk := Finset.univ)
    (by rw [View.setOn_univ, View.set_slice]; exact own2B c)) $$ H2; iintro H2
  ihave H2 := (Entails.of_eq (storeB_pts m c f2)) $$ [H2]
  · unfold pB; iexact H2
  iapply (ph_RB m K c [] Q _ (fun x hx => absurd hx List.not_mem_nil)) $$ [Hv Ho]
  · isplitr; · iexact HR
    isplitl [Hv] <;> iassumption
  rw [sepL_sep]
  iintro ⟨⟨H2s, Hvp⟩, Ho⟩
  iapply Hk
  isplitl [Hrp]; · iexact Hrp
  isplitl [H1]; · iexact H1
  isplitl [Hcs]; · iexact Hcs
  isplitl [H2 H2s]
  · iapply (Entails.of_eq (show iprop(pB b2 c (qc c) (RB m c) ∗ sepL r7 fun r => pB b2 c (qp c r) (RB m c)) = whl c cc0_scratch2 (RB m c) from
      ((split2B c _).trans (allB c _)).symm))
    isplitl [H2] <;> iassumption
  isplitl [Hvp] <;> iassumption

theorem part_A (Q : PUnit → sProp 𝕄) :
    iprop(records m K ∗ ow c (l2 c) ∗ (crd c (.reg barS) 3 ∗ pos c (.reg barS) 0) ∗ sepL r3 (tokSA c) ∗ sepL r7 (fun r => tok (nb c r) (.reg rdyS) (qc c))
        ∗ whl c cc0_scratch0 (SB m c) ∗ (∃ f, pA b1 c (zc c) f) ∗ (∃ f, whl c cc0_scratch2 f)
        ∗ sepL r3 (fun r => iprop(crd c (.dma (rA (zp c r))) NA ∗ pos c (.dma (rA (zp c r))) 0))
        ∗ ((pos c (.reg barS) 1 ∗ pA b0 c (zc c) (SB m c) ∗ sepL r3 (fun r => crd c (.dma (sA (zp c r))) NA) ∗ whl c cc0_scratch1 (RA m c)
            ∗ (∃ f, pB b2 c (qc c) f) ∗ sepL r3 (fun r => pos c (.dma (rA (zp c r))) 1) ∗ ow c (l4 c)) -∗ WP c (progB c) Q))
      ⊢ WP c (progA c) Q := by
  unfold progA
  iintro ⟨#HR, Ho, Hr, Ht, Htr, H0, ⟨%f1, H1⟩, ⟨%f2, H2⟩, Hv, Hk⟩
  iapply (wp_wt m K c (.reg barS) 3 _ (l2 c) _ Q (wpE_semWait_eq 𝒱₀ (c : Thread nD τ) none Set.univ) (expect_bar m c)
    (fun x hx => ⟨(lev2 c x hx).1, Nat.lt_of_lt_of_le (by decide) (lev2 c x hx).2⟩) (rest_bar m c)) $$ [Hr Ho]
  · isplitr; · iexact HR
    isplitl [Hr] <;> iassumption
  iintro ⟨⟨Hd, Hrp⟩, Ho⟩
  ihave H0 := (Entails.of_eq (show whl c cc0_scratch0 (SB m c) = iprop(pA b0 c (zc c) (SB m c) ∗ sepL r3 fun r => pA b0 c (zp c r) (SB m c)) from (split0A c _).trans (allA c _))) $$ H0
  icases H0 with ⟨H0, H0s⟩
  ihave Hpre := (Entails.of_eq (show iprop(sepL r3 (tokSA c) ∗ (sepL r3 (fun r => pA b0 c (zp c r) (SB m c))
      ∗ sepL r3 (fun r => iprop(∃ f, pA b1 (na c r) (zc c) f)))) = sepL r3 (preSA m c) from by unfold preSA; rw [sepL_sep, sepL_sep])) $$ [Ht H0s Hd]
  · isplitl [Ht]; · iexact Ht
    isplitl [H0s] <;> iassumption
  iapply (ph_SA m K c (l3 c) Q) $$ [Hpre Ho]
  · isplitr; · iexact HR
    isplitl [Hpre]; · iexact Hpre
    iexact Ho
  iintro ⟨Hcs, Ho⟩
  ihave H2 := (Entails.of_eq (show whl c cc0_scratch2 f2 = iprop(pB b2 c (qc c) f2 ∗ sepL r7 fun r => pB b2 c (qp c r) f2) from (split2B c _).trans (allB c _))) $$ H2
  icases H2 with ⟨H2, H2s⟩
  have hex : sepL r7 (fun r => pB b2 c (qp c r) f2) ⊢ sepL r7 (fun r => (iprop(∃ f, pB b2 c (qp c r) f) : sProp 𝕄)) := by
    rw [← sepL7, ← sepL7]; exact bigSep_mono fun r _ => exists_intro (Φ := fun f => pB b2 c (qp c r) f) f2
  ihave H2s := hex $$ H2s
  ihave Hpre := (Entails.of_eq (show iprop(sepL r7 (fun r => tok (nb c r) (.reg rdyS) (qc c)) ∗ sepL r7 (fun r => iprop(∃ f, pB b2 c (qp c r) f)))
    = sepL r7 (preRdy c) from by unfold preRdy; rw [sepL_sep])) $$ [Htr H2s]
  · isplitl [Htr] <;> iassumption
  iapply (ph_rdy m K c (l4 c) Q) $$ [Hpre Ho]
  · isplitr; · iexact HR
    isplitl [Hpre]; · iexact Hpre
    iexact Ho
  iintro ⟨-, Ho⟩
  unfold pA
  iapply (wp_load 𝒱₀ (c : Thread nD τ) none Set.univ (m := b0) (own0 c)) $$ H0; iintro H0
  iapply (wp_load 𝒱₀ (c : Thread nD τ) none Set.univ (m := b1) (own1 c)) $$ H1; iintro H1
  iapply (wp_store 𝒱₀ (c : Thread nD τ) none Set.univ (m := b1) (r := ownA c) (Mk := Finset.univ)
    (by rw [View.setOn_univ, View.set_slice]; exact own1 c)) $$ H1; iintro H1
  ihave H1 := (Entails.of_eq (storeA_pts m c f1)) $$ [H1]
  · unfold pA; iexact H1
  iapply (ph_RA m K c (l4 c) Q _ (fun x hx => ⟨(lev4 c x hx).1, Nat.lt_of_lt_of_le (by decide) (lev4 c x hx).2⟩)) $$ [Hv Ho]
  · isplitr; · iexact HR
    isplitl [Hv] <;> iassumption
  rw [sepL_sep]
  iintro ⟨⟨H1s, Hvp⟩, Ho⟩
  iapply Hk
  isplitl [Hrp]; · iexact Hrp
  isplitl [H0]; · iexact H0
  isplitl [Hcs]; · iexact Hcs
  isplitl [H1 H1s]
  · iapply (Entails.of_eq (show iprop(pA b1 c (zc c) (RA m c) ∗ sepL r3 fun r => pA b1 c (zp c r) (RA m c)) = whl c cc0_scratch1 (RA m c) from
      ((split1A c _).trans (allA c _)).symm))
    isplitl [H1] <;> iassumption
  isplitl [H2]; · iexists f2; iexact H2
  isplitl [Hvp] <;> iassumption

theorem part_start (Q : PUnit → sProp 𝕄) :
    iprop(records m K ∗ ow c (l1 c) ∗ (tok c (.dma xS) 0 ∗ pos c (.dma xS) 0) ∗ tok c (.dma wS) 0 ∗ sepL r3 (fun r => tok (na c r) (.reg barS) (e4 (zc c)))
        ∗ whl c main_arg0 (m ((c : Thread nD τ).loc main_arg0)) ∗ whl c main_arg1 (m ((c : Thread nD τ).loc main_arg1))
        ∗ (∃ f, whl c cc0_scratch0 f) ∗ (∃ f, whl c cc0_scratch1 f) ∗ (∃ f, whl c cc0_scratch3 f) ∗ (∃ f, whl c cc0_scratch4 f)
        ∗ ((pos c (.dma xS) 1 ∗ crd c (.dma wS) NW ∗ whl c main_arg0 (m ((c : Thread nD τ).loc main_arg0))
            ∗ whl c cc0_scratch4 (m ((c : Thread nD τ).loc main_arg0)) ∗ whl c cc0_scratch0 (SB m c) ∗ (∃ f, pA b1 c (zc c) f) ∗ ow c (l2 c)) -∗ WP c (progA c) Q))
      ⊢ WP c (prog c) Q := by
  unfold prog
  iintro ⟨#HR, Ho, ⟨Htx, Hxp⟩, Htw, Htb, Ha0, Ha1, ⟨%f0, H0⟩, ⟨%f1, H1⟩, ⟨%f3, H3⟩, ⟨%f4, H4⟩, Hk⟩
  iapply (wp_cp m K c ax bx xS (m ((c : Thread nD τ).loc main_arg0)) f4 NX Q rfl rfl rfl
    (Entails.of_eq (by
      rw [cp_x]
      exact congrArg₂ _ (pts_w c cc0_scratch4 _) (pts_w c main_arg0 _)))) $$ [Htx Ha0 H4]
  · isplitr; · iexact HR
    isplitl [Htx]; · iexact Htx
    isplitl [Ha0]; · iapply (Entails.of_eq (pts_w c main_arg0 _).symm); iexact Ha0
    iapply (Entails.of_eq (pts_w c cc0_scratch4 _).symm); iexact H4
  iintro Hcx
  iapply (wp_cp m K c aw bw wS (m ((c : Thread nD τ).loc main_arg1)) f3 NW Q rfl rfl rfl
    (Entails.of_eq (by
      rw [cp_w]
      exact congrArg₂ _ (pts_w c cc0_scratch3 _) (pts_w c main_arg1 _)))) $$ [Htw Ha1 H3]
  · isplitr; · iexact HR
    isplitl [Htw]; · iexact Htw
    isplitl [Ha1]; · iapply (Entails.of_eq (pts_w c main_arg1 _).symm); iexact Ha1
    iapply (Entails.of_eq (pts_w c cc0_scratch3 _).symm); iexact H3
  iintro Hcw
  ihave H1 := (Entails.of_eq (show whl c cc0_scratch1 f1 = iprop(pA b1 c (zc c) f1 ∗ sepL r3 fun r => pA b1 c (zp c r) f1) from (split1A c _).trans (allA c _))) $$ H1
  icases H1 with ⟨H1, H1s⟩
  have hex : sepL r3 (fun r => pA b1 c (zp c r) f1) ⊢ sepL r3 (fun r => (iprop(∃ f, pA b1 c (zp c r) f) : sProp 𝕄)) := by
    rw [← sepL3, ← sepL3]; exact bigSep_mono fun r _ => exists_intro (Φ := fun f => pA b1 c (zp c r) f) f1
  ihave H1s := hex $$ H1s
  ihave Hpre := (Entails.of_eq (show iprop(sepL r3 (fun r => tok (na c r) (.reg barS) (e4 (zc c))) ∗ sepL r3 (fun r => iprop(∃ f, pA b1 c (zp c r) f)))
    = sepL r3 (preBar c) from by unfold preBar; rw [sepL_sep])) $$ [Htb H1s]
  · isplitl [Htb] <;> iassumption
  iapply (ph_bar m K c (l2 c) Q) $$ [Hpre Ho]
  · isplitr; · iexact HR
    isplitl [Hpre]; · iexact Hpre
    iexact Ho
  iintro ⟨-, Ho⟩
  iapply (wp_wt1 m K c xS _ rfl _ (l2 c) Q NX (wpE_waitDma2_eq 𝒱₀ (c : Thread nD τ) none Set.univ) rfl rfl
    (fun x hx => ⟨(lev2 c x hx).1, Nat.lt_of_lt_of_le (by decide) (lev2 c x hx).2⟩)) $$ [Hcx Hxp Ho]
  · isplitr; · iexact HR
    isplitl [Hcx Hxp]
    · isplitl [Hcx] <;> iassumption
    iexact Ho
  rw [show pay m c (role (.dma xS)) 0 = iprop(whl c cc0_scratch4 (m ((c : Thread nD τ).loc main_arg0)) ∗ whl c main_arg0 (m ((c : Thread nD τ).loc main_arg0))) from rfl]
  unfold whl
  iintro ⟨⟨⟨H4, Ha0⟩, Hxp⟩, Ho⟩
  iapply (wp_load 𝒱₀ (c : Thread nD τ) none Set.univ (m := bx) (Finset.subset_univ _)) $$ H4; iintro H4
  rw [rd_x]
  iapply (wp_load 𝒱₀ (c : Thread nD τ) none Set.univ (m := b0) (Finset.subset_univ _)) $$ H0; iintro H0
  iapply (wp_store 𝒱₀ (c : Thread nD τ) none Set.univ (m := b0) (r := all4) (Mk := Finset.univ) (Finset.subset_univ _)) $$ H0; iintro H0
  rw [wr_b0]
  iapply Hk
  isplitl [Hxp]; · iexact Hxp
  isplitl [Hcw]; · iexact Hcw
  isplitl [Ha0]; · iexact Ha0
  isplitl [H4]; · iexact H4
  isplitl [H0]; · unfold SB; iexact H0
  isplitl [H1]; · iexists f1; iexact H1
  iexact Ho

end Parts

end Cert.TwoPhase

end
-- ==== Proof.A2aSound.lean ====
/- The whole body on one device, its cells closed, and the library's body obligation. -/
module

public import proofs.«01_k».proof.Proof.A2aBody

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝔼" => TpuEff nD τ sig (Elt F) Λ₀ Proc.tc
local notation "ℙ" => Prog (TpuEff nD τ sig (Elt F) Λ₀ Proc.tc) PUnit

variable (m : (ℓ : Loc nD τ sig) → Buf (Elt F) ℓ) (K : Dev nD × SemLoc sig → ℕ)

/-! ## All semaphores, family by family -/

def f4 : List (Fin 4) := [0, 1, 2, 3]
def f8 : List (Fin 8) := [0, 1, 2, 3, 4, 5, 6, 7]
def semL : List (SemLoc sig) :=
  f4.map (fun k => .dma (sA k)) ++ (f4.map (fun k => .dma (rA k)) ++ (f8.map (fun k => .dma (sB k)) ++ (f8.map (fun k => .dma (rB k))
    ++ [.dma wS, .dma xS, .dma oS, .reg rdyS, .reg barS])))
theorem semL_nodup : semL.Nodup := by decide
theorem semL_all : semL.toFinset = Finset.univ := by decide

omit [FloatOps F] in
theorem sepL_append {ι : Type} (l l' : List ι) (Φ : ι → sProp 𝕄) : sepL (l ++ l') Φ = iprop(sepL l Φ ∗ sepL l' Φ) := by
  induction l with
  | nil => exact (equiv_iff.mp _root_.Idealize.SL.BI.emp_sep).symm
  | cons r l ih =>
    rw [List.cons_append, sepL_cons, ih, sepL_cons]
    refine Entails.antisymm (?_ : iprop(Φ r ∗ (sepL l Φ ∗ sepL l' Φ)) ⊢ iprop((Φ r ∗ sepL l Φ) ∗ sepL l' Φ))
      (?_ : iprop((Φ r ∗ sepL l Φ) ∗ sepL l' Φ) ⊢ iprop(Φ r ∗ (sepL l Φ ∗ sepL l' Φ)))
    · iintro ⟨H1, H2, H3⟩
      isplitr [H3]
      · isplitl [H1] <;> iassumption
      · iexact H3
    · iintro ⟨⟨H1, H2⟩, H3⟩
      isplitl [H1]; · iexact H1
      isplitl [H2] <;> iassumption
omit [FloatOps F] in
theorem sepL_map {ι κ : Type} (f : ι → κ) (l : List ι) (Φ : κ → sProp 𝕄) : sepL (l.map f) Φ = sepL l fun i => Φ (f i) := by
  induction l with
  | nil => rfl
  | cons r l ih => rw [List.map_cons, sepL_cons, ih, sepL_cons]
omit [FloatOps F] in
theorem sepL_f4 (Φ : Fin 4 → sProp 𝕄) : sepL f4 Φ = bigSep Finset.univ Φ := by
  rw [← sepL_eq f4 (by decide), show f4.toFinset = Finset.univ from by decide]
omit [FloatOps F] in
theorem sepL_f8 (Φ : Fin 8 → sProp 𝕄) : sepL f8 Φ = bigSep Finset.univ Φ := by
  rw [← sepL_eq f8 (by decide), show f8.toFinset = Finset.univ from by decide]
omit [FloatOps F] in
theorem sepL_mono {ι : Type} (l : List ι) (Φ Ψ : ι → sProp 𝕄) (h : ∀ i, Φ i ⊢ Ψ i) : sepL l Φ ⊢ sepL l Ψ := by
  induction l with
  | nil => exact Entails.refl _
  | cons r l ih => rw [sepL_cons, sepL_cons]; exact BIClass.sep_mono (h r) ih

/-- The nine kinds of semaphore one by one: the two last coordinates' families as a device's own, then its peers'. -/
def fam (c : Dev nD) (Φ : SemLoc sig → sProp 𝕄) : sProp 𝕄 :=
  iprop((Φ (.dma (sA (zc c))) ∗ sepL r3 fun r => Φ (.dma (sA (zp c r)))) ∗ (Φ (.dma (rA (zc c))) ∗ sepL r3 fun r => Φ (.dma (rA (zp c r))))
    ∗ (Φ (.dma (sB (qc c))) ∗ sepL r7 fun r => Φ (.dma (sB (qp c r)))) ∗ (Φ (.dma (rB (qc c))) ∗ sepL r7 fun r => Φ (.dma (rB (qp c r))))
    ∗ Φ (.dma wS) ∗ Φ (.dma xS) ∗ Φ (.dma oS) ∗ Φ (.reg rdyS) ∗ Φ (.reg barS) ∗ emp)

omit [FloatOps F] in
theorem fam_eq (c : Dev nD) (Φ : SemLoc sig → sProp 𝕄) : bigSep Finset.univ Φ = fam c Φ := by
  unfold fam
  rw [← semL_all, sepL_eq semL semL_nodup, semL, sepL_append, sepL_append, sepL_append, sepL_append, sepL_map, sepL_map, sepL_map, sepL_map,
    sepL_f4, sepL_f4, sepL_f8, sepL_f8, allA c, allA c, allB c, allB c]
  rfl

/-! ## Closing -/

/-- A cell past its last duty. -/
def done (c : Dev nD) (sm : SemLoc sig) : sProp 𝕄 := iprop(∃ r, ⌜∀ r', r ≤ r' → (Rd m).duties (cl c sm) r' = ∅⌝ ∗ pos c sm r)

theorem done_one (c : Dev nD) (sm : SemLoc sig) : pos c sm 1 ⊢ done m c sm := by
  unfold done
  iintro H
  iexists 1
  isplitr; · ipureintro; exact duties_later m (cl c sm)
  iexact H
theorem done_none (c : Dev nD) (sm : SemLoc sig) (h : dut c (role sm) = ∅) : pos c sm 0 ⊢ done m c sm := by
  unfold done
  iintro H
  iexists 0
  isplitr
  · ipureintro
    intro r' _
    rcases Nat.eq_zero_or_pos r' with rfl | hr
    · rw [duties_cl]; exact h
    · exact duties_later m (cl c sm) r' hr
  iexact H

theorem close_one (c : Dev nD) (sm : SemLoc sig) : iprop(records m K ∗ done m c sm) ⊢ |={Set.univ}=> semVal (cl c sm) 0 := by
  unfold done pos
  iintro ⟨#HR, %r, %h, H⟩
  iapply (Rounds.cell_close ER (Rd m) (Set.mem_univ (K (c, sm))) (fun h => h) (R := r) h)
  isplitr; · iapply (inv_at m K c sm); iexact HR
  iexact H

omit [FloatOps F] in
theorem bigSep_with {I : Type} [DecidableEq I] (S : Finset I) (R : sProp 𝕄) [BI.Persistent R] (Φ Ψ : I → sProp 𝕄)
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem close_all (c : Dev nD) :
    iprop(records m K ∗ bigSep Finset.univ (done m c)) ⊢ |={Set.univ}=> bigSep Finset.univ fun sm => semVal (cl c sm) 0 :=
  (bigSep_with Finset.univ (records m K) (done m c) (fun sm => iprop(|={Set.univ}=> semVal (cl c sm) 0)) fun sm => close_one m K c sm).trans
    (bigSep_fupd _ _)

/-! ## The body -/

/-- The tokens of the duties device `c` pays. -/
def tokC (c : Dev nD) : sProp 𝕄 :=
  iprop((sepL r3 (fun r => tok (na c r) (.reg barS) (e4 (zc c))) ∗ sepL r3 (tokSA c))
    ∗ (sepL r7 (fun r => tok (nb c r) (.reg rdyS) (qc c)) ∗ sepL r7 (tokSB c))
    ∗ tok c (.dma wS) 0 ∗ tok c (.dma xS) 0 ∗ tok c (.dma oS) 0)
/-- What it may wait for. -/
def crdC (c : Dev nD) : sProp 𝕄 :=
  iprop((crd c (.reg barS) 3 ∗ sepL r3 (fun r => crd c (.dma (rA (zp c r))) NA))
    ∗ crd c (.reg rdyS) 7 ∗ sepL r7 (fun r => crd c (.dma (rB (qp c r))) NB))
/-- Its arrays, at launch and at the end. -/
def memPre (c : Dev nD) : sProp 𝕄 :=
  iprop(whl c main_arg0 (m ((c : Thread nD τ).loc main_arg0)) ∗ whl c main_arg1 (m ((c : Thread nD τ).loc main_arg1)) ∗ whl c main_v1 (m ((c : Thread nD τ).loc main_v1)))
def memPost (c : Dev nD) : sProp 𝕄 :=
  iprop(whl c main_arg0 (m ((c : Thread nD τ).loc main_arg0)) ∗ whl c main_arg1 (m ((c : Thread nD τ).loc main_arg1)) ∗ whl c main_v1 (outAt m c))
/-- Its scratch, at any contents. -/
def scr (c : Dev nD) : sProp 𝕄 :=
  iprop((∃ f, whl c cc0_scratch0 f) ∗ (∃ f, whl c cc0_scratch1 f) ∗ (∃ f, whl c cc0_scratch2 f) ∗ (∃ f, whl c cc0_scratch3 f)
    ∗ (∃ f, whl c cc0_scratch4 f) ∗ (∃ f, whl c cc0_scratch5 f))

def start (c : Dev nD) : sProp 𝕄 :=
  iprop((∃ K, records m K) ∗ tokC c ∗ (bigSep Finset.univ fun sm => pos c sm 0) ∗ crdC c ∗ memPre m c)
def Φ₀ (c : Dev nD) : sProp 𝕄 := iprop(start m c ∗ scr c)
def Φ₁ (c : Dev nD) : sProp 𝕄 := iprop(memPost m c ∗ (bigSep Finset.univ fun sm => semVal (cl c sm) 0) ∗ scr c)

set_option maxHeartbeats 1000000 in
theorem sound (c : Dev nD) (Q : PUnit → sProp 𝕄) :
    iprop(Φ₀ m c ∗ ow c (l1 c) ∗ (Φ₁ m c ∗ ow c [] -∗ Q ⟨⟩)) ⊢ WP c (prog c) Q := by
  unfold Φ₀ start tokC crdC memPre scr
  rw [fam_eq c]; unfold fam
  iintro ⟨⟨⟨⟨%K, #HR⟩, ⟨⟨Htb, HtA⟩, ⟨Htr, HtB⟩, Htw, Htx, Hto⟩, ⟨⟨Pa, Pas⟩, ⟨Pr, Prs⟩, ⟨Pb, Pbs⟩, ⟨Pv, Pvs⟩, Pw, Px, Po, Prdy, Pbar, -⟩,
    ⟨⟨Cbar, CA⟩, Crdy, CB⟩, Ha0, Ha1, Hv⟩, H0, H1, H2, H3, H4, H5⟩, Ho, Hk⟩
  iapply (part_start m K c Q)
  isplitr; · iexact HR
  isplitl [Ho]; · iexact Ho
  isplitl [Htx Px]
  · isplitl [Htx] <;> iassumption
  isplitl [Htw]; · iexact Htw
  isplitl [Htb]; · iexact Htb
  isplitl [Ha0]; · iexact Ha0
  isplitl [Ha1]; · iexact Ha1
  isplitl [H0]; · iexact H0
  isplitl [H1]; · iexact H1
  isplitl [H3]; · iexact H3
  isplitl [H4]; · iexact H4
  iintro ⟨Px, Cw, Ha0, H4, H0, H1, Ho⟩
  iapply (part_A m K c Q)
  isplitr; · iexact HR
  isplitl [Ho]; · iexact Ho
  isplitl [Cbar Pbar]
  · isplitl [Cbar] <;> iassumption
  isplitl [HtA]; · iexact HtA
  isplitl [Htr]; · iexact Htr
  isplitl [H0]; · iexact H0
  isplitl [H1]; · iexact H1
  isplitl [H2]; · iexact H2
  isplitl [CA Prs]
  · rw [sepL_sep]
    isplitl [CA] <;> iassumption
  iintro ⟨Pbar, H0, CsA, H1, H2, Prs, Ho⟩
  iapply (part_B m K c Q)
  isplitr; · iexact HR
  isplitl [Ho]; · iexact Ho
  isplitl [Crdy Prdy]
  · isplitl [Crdy] <;> iassumption
  isplitl [HtB]; · iexact HtB
  isplitl [H1]; · iexact H1
  isplitl [H2]; · iexact H2
  isplitl [CB Pvs]
  · rw [sepL_sep]
    isplitl [CB] <;> iassumption
  iintro ⟨Prdy, H1, CsB, H2, Pvs, Ho⟩
  iapply (part_out m K c Q)
  isplitr; · iexact HR
  isplitl [Ho]; · iexact Ho
  isplitl [H2]; · iexact H2
  isplitl [Cw Pw]
  · isplitl [Cw] <;> iassumption
  isplitl [Hto Po]
  · isplitl [Hto] <;> iassumption
  isplitl [H5]; · iexact H5
  isplitl [Hv]; · iexists _; iexact Hv
  iintro ⟨H2, H3, Ha1, Hv, H5, Pw, Po, Ho⟩
  iapply (part_fin m K c Q)
  isplitr; · iexact HR
  isplitl [Ho]; · iexact Ho
  isplitl [CsA Pas]
  · rw [sepL_sep]
    isplitl [CsA] <;> iassumption
  isplitl [CsB Pbs]
  · rw [sepL_sep]
    isplitl [CsB] <;> iassumption
  rw [sepL_sep, sepL_sep]
  iintro ⟨⟨H0s, Pas⟩, ⟨H1s, Pbs⟩, Ho⟩
  ihave Pas := (sepL_mono r3 _ _ fun r => done_one m c (.dma (sA (zp c r)))) $$ Pas
  ihave Prs := (sepL_mono r3 _ _ fun r => done_one m c (.dma (rA (zp c r)))) $$ Prs
  ihave Pbs := (sepL_mono r7 _ _ fun r => done_one m c (.dma (sB (qp c r)))) $$ Pbs
  ihave Pvs := (sepL_mono r7 _ _ fun r => done_one m c (.dma (rB (qp c r)))) $$ Pvs
  ihave Pa := (done_none m c (.dma (sA (zc c))) (by rw [role_sA]; exact if_pos rfl)) $$ Pa
  ihave Pr := (done_none m c (.dma (rA (zc c))) (by rw [role_rA]; exact if_pos rfl)) $$ Pr
  ihave Pb := (done_none m c (.dma (sB (qc c))) (by rw [role_sB]; exact if_pos rfl)) $$ Pb
  ihave Pv := (done_none m c (.dma (rB (qc c))) (by rw [role_rB]; exact if_pos rfl)) $$ Pv
  ihave Pw := (done_one m c (.dma wS)) $$ Pw
  ihave Px := (done_one m c (.dma xS)) $$ Px
  ihave Po := (done_one m c (.dma oS)) $$ Po
  ihave Prdy := (done_one m c (.reg rdyS)) $$ Prdy
  ihave Pbar := (done_one m c (.reg barS)) $$ Pbar
  imod (close_all m K c) $$ [Pa Pas Pr Prs Pb Pbs Pv Pvs Pw Px Po Prdy Pbar] with Hz
  · isplitr; · iexact HR
    iapply (Entails.of_eq (fam_eq c (done m c)).symm)
    unfold fam
    isplitl [Pa Pas]
    · isplitl [Pa] <;> iassumption
    isplitl [Pr Prs]
    · isplitl [Pr] <;> iassumption
    isplitl [Pb Pbs]
    · isplitl [Pb] <;> iassumption
    isplitl [Pv Pvs]
    · isplitl [Pv] <;> iassumption
    isplitl [Pw]; · iexact Pw
    isplitl [Px]; · iexact Px
    isplitl [Po]; · iexact Po
    isplitl [Prdy]; · iexact Prdy
    isplitl [Pbar]; · iexact Pbar
    iempintro
  imodintro
  iapply Hk
  isplitr [Ho]
  · unfold Φ₁ memPost scr
    isplitl [Ha0 Ha1 Hv]
    · isplitl [Ha0]; · iexact Ha0
      isplitl [Ha1]; · iexact Ha1
      iexact Hv
    isplitl [Hz]; · iexact Hz
    isplitl [H0 H0s]
    · iexists (SB m c)
      iapply (Entails.of_eq (show iprop(pA b0 c (zc c) (SB m c) ∗ sepL r3 fun r => pA b0 c (zp c r) (SB m c)) = whl c cc0_scratch0 (SB m c) from
        ((split0A c _).trans (allA c _)).symm))
      isplitl [H0] <;> iassumption
    isplitl [H1 H1s]
    · iexists (RA m c)
      iapply (Entails.of_eq (show iprop(pB b1 c (qc c) (RA m c) ∗ sepL r7 fun r => pB b1 c (qp c r) (RA m c)) = whl c cc0_scratch1 (RA m c) from
        ((split1B c _).trans (allB c _)).symm))
      isplitl [H1] <;> iassumption
    isplitl [H2]; · iexists _; iexact H2
    isplitl [H3]; · iexists _; iexact H3
    isplitl [H4]; · iexists _; iexact H4
    iexists _; iexact H5
  iexact Ho

/-! ## The pipeline's proof data -/

variable (ρ : Dev nD → PrngReg)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(emp) := by
  rw [show (Finset.univ : Finset (Fin cfg0.W)) = ∅ from rfl]; exact bigSep_empty

def bodyPre (c : Dev nD) : sProp 𝕄 := iprop(Φ₀ m c ∗ (dats m ρ 0 c).owesAt () t0_0.castSucc ∗ emp)
def bodyPost (c : Dev nD) : sProp 𝕄 := iprop(Φ₁ m c ∗ (dats m ρ 0 c).owesAt () t0_0.succ ∗ emp)

/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  show bodyPre m ρ c ⊢ wp frame (wpE (defs₀ (F := F)) 𝒱₀ c none) Set.univ (bodyAt0 t0_0) (fun _ => bodyPost m ρ c)
  rw [bodyAt0_eq, wp_deviceId]
  unfold bodyPre bodyPost Dat.owesAt Pipeline.owesWithin
  rw [show (dats m ρ 0 c).owed t0_0.castSucc = ob (l1 c) from rfl, show (dats m ρ 0 c).owed t0_0.succ = ob [] from rfl]
  iintro ⟨HΦ, ⟨%W, -, Ho⟩, -⟩
  iapply (sound m c)
  isplitl [HΦ]; · iexact HΦ
  isplitl [Ho]; · unfold ow; iexists W; iexact Ho
  unfold ow
  iintro ⟨HΦ, %W', Ho⟩
  isplitl [HΦ]; · iexact HΦ
  isplitl [Ho]
  · iexists W'
    isplitr; · ipureintro; exact fun _ _ => Or.inl trivial
    iexact Ho
  iempintro

end Cert.TwoPhase

end
-- ==== Proof.A2aLaunch.lean ====
/- The launch: minting the cells, dealing the duties' tokens to the devices that pay them, the launch credit, and the run of
   the whole mesh. -/
module

public import proofs.«01_k».proof.Proof.A2aSound
public import Idealize.ShloMosaic.Lib.Quiescent
public import Idealize.ShloMosaic.Lib.Pipeline.Quiescent

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Exchanging along a column, along a row -/

omit [FloatOps F] in
theorem exchA (T : Dev nD → Fin 4 → sProp 𝕄) :
    (bigSep Finset.univ fun c => sepL r3 fun r => T c (zp c r)) = bigSep Finset.univ fun c => sepL r3 fun r => T (na c r) (zc c) := by
  have hk (c : Dev nD) (Φ : Fin 4 → sProp 𝕄) : (sepL r3 fun r => Φ (zp c r)) = bigSep Finset.univ fun k => if k ≠ zc c then Φ k else iprop(emp) := by
    rw [← othersA, ← Finset.filter_ne', bigSep_filter]; rfl
  rw [bigSep_congr fun c _ => hk c (T c), bigSep_congr fun c _ => hk c fun k => T (mk k (qc c)) (zc c),
    ← bigSep_univ_prod (fun p : Dev nD × Fin 4 => if p.2 ≠ zc p.1 then T p.1 p.2 else iprop(emp)),
    ← bigSep_univ_prod (fun p : Dev nD × Fin 4 => if p.2 ≠ zc p.1 then T (mk p.2 (qc p.1)) (zc p.1) else iprop(emp)),
    bigSep_univ_equiv swapAe]
  refine bigSep_congr fun p _ => ?_
  show (if zc p.1 ≠ zc (mk p.2 (qc p.1)) then T (mk p.2 (qc p.1)) (zc p.1) else iprop(emp)) = _
  rw [zc_mk]
  exact if_congr ne_comm rfl rfl
omit [FloatOps F] in
theorem exchB (T : Dev nD → Fin 8 → sProp 𝕄) :
    (bigSep Finset.univ fun c => sepL r7 fun r => T c (qp c r)) = bigSep Finset.univ fun c => sepL r7 fun r => T (nb c r) (qc c) := by
  have hk (c : Dev nD) (Φ : Fin 8 → sProp 𝕄) : (sepL r7 fun r => Φ (qp c r)) = bigSep Finset.univ fun k => if k ≠ qc c then Φ k else iprop(emp) := by
    rw [← othersB, ← Finset.filter_ne', bigSep_filter]; rfl
  rw [bigSep_congr fun c _ => hk c (T c), bigSep_congr fun c _ => hk c fun k => T (mk (zc c) k) (qc c),
    ← bigSep_univ_prod (fun p : Dev nD × Fin 8 => if p.2 ≠ qc p.1 then T p.1 p.2 else iprop(emp)),
    ← bigSep_univ_prod (fun p : Dev nD × Fin 8 => if p.2 ≠ qc p.1 then T (mk (zc p.1) p.2) (qc p.1) else iprop(emp)),
    bigSep_univ_equiv swapBe]
  refine bigSep_congr fun p _ => ?_
  show (if qc p.1 ≠ qc (mk (zc p.1) p.2) then T (mk (zc p.1) p.2) (qc p.1) else iprop(emp)) = _
  rw [qc_mk]
  exact if_congr ne_comm rfl rfl

theorem sumA {M : Type} [AddCommMonoid M] (T : Dev nD → Fin 4 → M) :
    (∑ c, ∑ r, T (na c r) (zc c)) = ∑ c, ∑ r, T c (zp c r) := by
  have hk (c : Dev nD) (Φ : Fin 4 → M) : (∑ r, Φ (zp c r)) = ∑ k, if k ≠ zc c then Φ k else 0 := by
    rw [← Finset.sum_filter, Finset.filter_ne', erase_zc, Finset.sum_map]; rfl
  rw [Finset.sum_congr rfl fun c _ => hk c (T c), Finset.sum_congr rfl fun c _ => hk c fun k => T (mk k (qc c)) (zc c),
    ← Fintype.sum_prod_type' (fun c k => if k ≠ zc c then T c k else 0),
    ← Fintype.sum_prod_type' (fun c k => if k ≠ zc c then T (mk k (qc c)) (zc c) else 0), ← Equiv.sum_comp swapAe]
  refine Finset.sum_congr rfl fun p _ => ?_
  show (if zc p.1 ≠ zc (mk p.2 (qc p.1)) then T (mk (zc p.1) (qc (mk p.2 (qc p.1)))) (zc (mk p.2 (qc p.1))) else 0) = _
  rw [zc_mk, qc_mk, mk_eta]
  exact if_congr ne_comm rfl rfl
theorem sumB {M : Type} [AddCommMonoid M] (T : Dev nD → Fin 8 → M) :
    (∑ c, ∑ r, T (nb c r) (qc c)) = ∑ c, ∑ r, T c (qp c r) := by
  have hk (c : Dev nD) (Φ : Fin 8 → M) : (∑ r, Φ (qp c r)) = ∑ k, if k ≠ qc c then Φ k else 0 := by
    rw [← Finset.sum_filter, Finset.filter_ne', erase_qc, Finset.sum_map]; rfl
  rw [Finset.sum_congr rfl fun c _ => hk c (T c), Finset.sum_congr rfl fun c _ => hk c fun k => T (mk (zc c) k) (qc c),
    ← Fintype.sum_prod_type' (fun c k => if k ≠ qc c then T c k else 0),
    ← Fintype.sum_prod_type' (fun c k => if k ≠ qc c then T (mk (zc c) k) (qc c) else 0), ← Equiv.sum_comp swapBe]
  refine Finset.sum_congr rfl fun p _ => ?_
  show (if qc p.1 ≠ qc (mk (zc p.1) p.2) then T (mk (zc (mk (zc p.1) p.2)) (qc p.1)) (qc (mk (zc p.1) p.2)) else 0) = _
  rw [zc_mk, qc_mk, mk_eta]
  exact if_congr ne_comm rfl rfl

/-! ## The tokens -/

/-- All tokens of device `c`'s cells. -/
def toks (c : Dev nD) : sProp 𝕄 := bigSep Finset.univ fun sm : SemLoc sig => bigSep Finset.univ fun d : Fin 8 => tok c sm d

/-- The tokens of its duties. -/
def tokD (c : Dev nD) : sProp 𝕄 :=
  iprop((sepL r3 (fun r => tok c (.reg barS) (e4 (zp c r))) ∗ sepL r3 (fun r => tok c (.dma (sA (zp c r))) 0)
      ∗ sepL r3 (fun r => tok c (.dma (rA (zp c r))) 0))
    ∗ (sepL r7 (fun r => tok c (.reg rdyS) (qp c r)) ∗ sepL r7 (fun r => tok c (.dma (sB (qp c r))) 0)
      ∗ sepL r7 (fun r => tok c (.dma (rB (qp c r))) 0))
    ∗ tok c (.dma wS) 0 ∗ tok c (.dma xS) 0 ∗ tok c (.dma oS) 0)

omit [FloatOps F] in
theorem tok_zero (c : Dev nD) (sm : SemLoc sig) : (bigSep Finset.univ fun d : Fin 8 => (tok c sm d : sProp 𝕄)) ⊢ tok c sm 0 :=
  bigSep_elim (Finset.mem_univ 0)
omit [FloatOps F] in
theorem tok_bar (c : Dev nD) : (bigSep Finset.univ fun d : Fin 8 => (tok c (.reg barS) d : sProp 𝕄)) ⊢ sepL r3 fun r => tok c (.reg barS) (e4 (zp c r)) := by
  rw [← othersA c fun k => (tok c (.reg barS) (e4 k) : sProp 𝕄)]
  refine (bigSep_subset (Finset.subset_univ ((Finset.univ.erase (zc c)).map ⟨e4, e4_inj⟩))).trans ?_
  rw [bigSep_map]; exact BI.Entails.refl _
omit [FloatOps F] in
theorem tok_rdy (c : Dev nD) : (bigSep Finset.univ fun d : Fin 8 => (tok c (.reg rdyS) d : sProp 𝕄)) ⊢ sepL r7 fun r => tok c (.reg rdyS) (qp c r) := by
  rw [← othersB c fun k => (tok c (.reg rdyS) k : sProp 𝕄)]
  exact bigSep_subset (Finset.subset_univ _)

omit [FloatOps F] in
theorem toks_tokD (c : Dev nD) : (toks c : sProp 𝕄) ⊢ tokD c := by
  unfold toks tokD
  rw [fam_eq c]; unfold fam
  iintro ⟨⟨-, Ha⟩, ⟨-, Hra⟩, ⟨-, Hb⟩, ⟨-, Hrb⟩, Hw, Hx, Ho, Hr, Hbar, -⟩
  ihave Ha := (sepL_mono r3 _ _ fun r => tok_zero c (.dma (sA (zp c r)))) $$ Ha
  ihave Hra := (sepL_mono r3 _ _ fun r => tok_zero c (.dma (rA (zp c r)))) $$ Hra
  ihave Hb := (sepL_mono r7 _ _ fun r => tok_zero c (.dma (sB (qp c r)))) $$ Hb
  ihave Hrb := (sepL_mono r7 _ _ fun r => tok_zero c (.dma (rB (qp c r)))) $$ Hrb
  ihave Hw := (tok_zero c (.dma wS)) $$ Hw
  ihave Hx := (tok_zero c (.dma xS)) $$ Hx
  ihave Ho := (tok_zero c (.dma oS)) $$ Ho
  ihave Hr := (tok_rdy c) $$ Hr
  ihave Hbar := (tok_bar c) $$ Hbar
  isplitl [Hbar Ha Hra]
  · isplitl [Hbar]; · iexact Hbar
    isplitl [Ha] <;> iassumption
  isplitl [Hr Hb Hrb]
  · isplitl [Hr]; · iexact Hr
    isplitl [Hb] <;> iassumption
  isplitl [Hw]; · iexact Hw
  isplitl [Hx] <;> iassumption

omit [FloatOps F] in
/-- Each token goes to the device that pays the duty. -/
theorem deal : (bigSep Finset.univ fun c : Dev nD => (tokD c : sProp 𝕄)) ⊢ bigSep Finset.univ fun c : Dev nD => tokC c := by
  have hA (c : Dev nD) : (sepL r3 (tokSA c) : sProp 𝕄)
      = iprop(sepL r3 (fun r => tok c (.dma (sA (zp c r))) 0) ∗ sepL r3 fun r => tok (na c r) (.dma (rA (zc c))) 0) := sepL_sep r3 _ _
  have hB (c : Dev nD) : (sepL r7 (tokSB c) : sProp 𝕄)
      = iprop(sepL r7 (fun r => tok c (.dma (sB (qp c r))) 0) ∗ sepL r7 fun r => tok (nb c r) (.dma (rB (qc c))) 0) := sepL_sep r7 _ _
  unfold tokD tokC
  simp only [hA, hB, bigSep_sep']
  rw [exchA fun c k => tok c (.reg barS) (e4 k), exchA fun c k => tok c (.dma (rA k)) 0,
    exchB fun c k => tok c (.reg rdyS) k, exchB fun c k => tok c (.dma (rB k)) 0]

/-! ## Minting -/

abbrev cellP (p : Dev nD × SemLoc sig) : GSem nD τ sig := cl p.1 p.2
theorem cellP_inj : Function.Injective cellP := fun p p' h =>
  Prod.ext (congrArg (fun g : GSem nD τ sig => g.1.1) h) (congrArg (fun g : GSem nD τ sig => g.2) h)
abbrev tokP (p : (Dev nD × SemLoc sig) × Fin 8) : GSem nD τ sig × ℕ × Fin 8 := (cellP p.1, 0, p.2)
theorem tokP_inj : Function.Injective tokP := fun p p' h =>
  Prod.ext (cellP_inj (congrArg Prod.fst h)) (congrArg (fun x : GSem nD τ sig × ℕ × Fin 8 => x.2.2) h)
def meshCells : Finset (GSem nD τ sig) := Finset.univ.map ⟨cellP, cellP_inj⟩
def meshToks : Finset (GSem nD τ sig × ℕ × Fin 8) := Finset.univ.map ⟨tokP, tokP_inj⟩

def u₀ : UU := (initOf (Pipeline.cells cfgs cellOf_inj) (Pipeline.launchToks cfgs cellOf_inj), initOf meshCells meshToks)

/-- What the launch deals device `c`. -/
def G (c : Dev nD) : sProp 𝕄 :=
  iprop((bigSep Finset.univ fun sm => roundState ER (Rd m) (cl c sm) 0) ∗ (bigSep Finset.univ fun sm => pos c sm 0)
    ∗ (bigSep Finset.univ fun sm => reached ER (cl c sm) 0) ∗ toks c)

theorem mint : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun sm => Φ (cl c sm) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks toks tok; rw [bigSep_map, bigSep_univ_prod, bigSep_univ_prod]; rfl
  unfold G; simp only [bigSep_sep']
  iintro HX
  imod (Rounds.fund ER (Rd m) meshCells meshToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat]; · unfold pos; iexact Hat
  isplitl [Hr] <;> iassumption

/-! ## The semaphores' counters become the cells' -/

abbrev OwnSem : Type := {sm : SemLoc sig // sm.isScoped .tc = true}
abbrev osem : OwnSem → SemLoc sig := Subtype.val

theorem ownSemFacts : Pipeline.OwnSemFacts cfg0.spec osem := by decide

omit [FloatOps F] in
theorem sems_eq (c : Dev nD) :
    iprop(Pipeline.ownSems0 (Ix := Unit) (Name := ℕ) (U := UU) (Lvl := ℕ) (Val := Elt F) (τ := τ) osem c ∗ unscopedSems0 c)
      = (bigSep Finset.univ fun sm => semVal (cl c sm) 0 : sProp 𝕄) := by
  unfold Pipeline.ownSems0 unscopedSems0
  rw [bigSep_filter_split Finset.univ (fun sm : SemLoc sig => sm.isScoped .tc = true)]
  congr 1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm => iprop(∃ κ : ℕ, cellInv ER (Rd m) κ (cl c sm)))
          ∗ (bigSep Finset.univ fun sm => pos c sm 0) ∗ (bigSep Finset.univ fun sm => reached ER (cl c sm) 0) ∗ toks c) := by
  unfold G
  iintro ⟨Hos, Hus, Hst, Hrest⟩
  ihave Hv := (Entails.of_eq (sems_eq (F := F) c)) $$ [Hos Hus]
  · isplitl [Hos] <;> iassumption
  imod (show iprop((bigSep Finset.univ fun sm : SemLoc sig => semVal (cl c sm) 0) ∗ bigSep Finset.univ fun sm => roundState ER (Rd m) (cl c sm) 0)
      ⊢ (|={Set.univ}=> bigSep Finset.univ fun sm => iprop(∃ κ : ℕ, cellInv ER (Rd m) κ (cl c sm)) : sProp 𝕄) from by
        rw [← bigSep_sep']
        exact (bigSep_mono fun sm _ => (Rounds.body_intro ER (Rd m) (cl c sm)).trans inv_alloc).trans (bigSep_fupd _ _)) $$ [Hv Hst] with Hinv
  · isplitl [Hv] <;> iassumption
  imodintro
  isplitl [Hinv]; · iexact Hinv
  iexact Hrest

/-- The records but for the levels. -/
def recs (K : Dev nD × SemLoc sig → ℕ) : sProp 𝕄 :=
  iprop((bigSep Finset.univ fun p : Dev nD × SemLoc sig => cellInv ER (Rd m) (K p) (cl p.1 p.2))
    ∗ bigSep Finset.univ fun p : Dev nD × SemLoc sig => reached ER (cl p.1 p.2) 0)
instance recs_persistent (K : Dev nD × SemLoc sig → ℕ) : BI.Persistent (recs m K) := by unfold recs; infer_instance

/-- What the global step leaves device `c`. -/
def G' (c : Dev nD) : sProp 𝕄 := iprop((∃ K, recs m K) ∗ tokC c ∗ bigSep Finset.univ fun sm => pos c sm 0)

theorem regroup :
    (bigSep Finset.univ fun c : Dev nD => iprop((bigSep Finset.univ fun sm => iprop(∃ κ : ℕ, cellInv ER (Rd m) κ (cl c sm)))
          ∗ (bigSep Finset.univ fun sm => pos c sm 0) ∗ (bigSep Finset.univ fun sm => reached ER (cl c sm) 0) ∗ toks c) : sProp 𝕄)
      ⊢ bigSep Finset.univ (G' m) := by
  rw [bigSep_sep', bigSep_sep', bigSep_sep', ← bigSep_univ_prod (fun p : Dev nD × SemLoc sig => iprop(∃ κ : ℕ, cellInv ER (Rd m) κ (cl p.1 p.2))),
    ← bigSep_univ_prod (fun p : Dev nD × SemLoc sig => (reached ER (cl p.1 p.2) 0 : sProp 𝕄))]
  iintro ⟨HI, Hat, #HR, Htok⟩
  ihave HK := (BI.bigSep_exists_pi Finset.univ (fun (p : Dev nD × SemLoc sig) (κ : ℕ) => (cellInv ER (Rd m) κ (cl p.1 p.2) : sProp 𝕄))) $$ HI
  icases HK with ⟨%K, #HI⟩
  ihave Htok := (show (bigSep Finset.univ fun c : Dev nD => (toks c : sProp 𝕄)) ⊢ bigSep Finset.univ fun c : Dev nD => tokC c from
    (bigSep_mono fun c _ => toks_tokD (F := F) c).trans deal) $$ Htok
  iapply (bigSep_with Finset.univ (recs m K) (fun c : Dev nD => iprop(tokC c ∗ bigSep Finset.univ fun sm => pos c sm 0)) (G' m) fun c => by
    unfold G'
    iintro ⟨#HR, Ht, Hp⟩
    isplitr; · iexists K; iexact HR
    isplitl [Ht] <;> iassumption)
  isplitr
  · unfold recs; isplitl; · iexact HI
    iexact HR
  · iapply (Entails.of_eq (bigSep_sep' Finset.univ (fun c : Dev nD => (tokC c : sProp 𝕄)) (fun c => bigSep Finset.univ fun sm => pos c sm 0)).symm)
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `c`'s cells are owed. -/
def dueAt (c : Dev nD) : CellTallies nD τ sig Unit :=
  (∑ r : Fin 3, tallyAt (cl c (.reg barS)) () 1) + (∑ r : Fin 3, tallyAt (cl c (.dma (rA (zp c r)))) () NA)
    + (∑ r : Fin 7, tallyAt (cl c (.reg rdyS)) () 1) + ∑ r : Fin 7, tallyAt (cl c (.dma (rB (qp c r)))) () NB

theorem ob_append (l l' : List Ent) : ob (l ++ l') = ob l + ob l' := by
  induction l with
  | nil => exact (zero_add _).symm
  | cons x l ih => show ob (l ++ l') + _ = ob l + _ + _; rw [ih, add_right_comm]
theorem ob_r3 (p : Fin 3 → Ent) : ob (r3.map p) = ∑ r, tallyAt (p r).1 () (p r).2 := by
  rw [Fin.sum_univ_three]; show 0 + _ + _ + _ = _; rw [zero_add]; ac_rfl
theorem ob_r7 (p : Fin 7 → Ent) : ob (r7.map p) = ∑ r, tallyAt (p r).1 () (p r).2 := by
  rw [Fin.sum_univ_seven]; show 0 + _ + _ + _ + _ + _ + _ + _ = _; rw [zero_add]; ac_rfl

theorem O₀_eq (c : Dev nD) : O₀ c = (∑ r : Fin 3, tallyAt (cl (na c r) (.reg barS)) () 1) + (∑ r : Fin 3, tallyAt (cl (na c r) (.dma (rA (zc c)))) () NA)
    + (∑ r : Fin 7, tallyAt (cl (nb c r) (.reg rdyS)) () 1) + ∑ r : Fin 7, tallyAt (cl (nb c r) (.dma (rB (qc c)))) () NB := by
  unfold O₀ l1 l2 l3 l4
  rw [List.append_nil, ob_append, ob_append, ob_append, ob_r3, ob_r3, ob_r7, ob_r7, ← add_assoc, ← add_assoc]
  rfl

theorem sum_due : (∑ d, O₀ d) = ∑ d, dueAt d := by
  unfold dueAt
  rw [Finset.sum_congr rfl fun d _ => O₀_eq d]
  simp only [Finset.sum_add_distrib]
  rw [sumA fun c k => (tallyAt (cl c (.reg barS)) () 1 : CellTallies nD τ sig Unit), sumA fun c k => (tallyAt (cl c (.dma (rA k))) () NA : CellTallies nD τ sig Unit),
    sumB fun c k => (tallyAt (cl c (.reg rdyS)) () 1 : CellTallies nD τ sig Unit), sumB fun c k => (tallyAt (cl c (.dma (rB k))) () NB : CellTallies nD τ sig Unit)]

theorem due_own (d : Dev nD) (g : GSem nD τ sig) (h : dueAt d g ≠ 0) : g.1 = (d.tc : Thread nD τ) := by
  by_contra hne
  have h0 (sm : SemLoc sig) (n : ℕ) : (tallyAt (cl d sm) () n : CellTallies nD τ sig Unit) g = 0 :=
    tallyAt_ne_cell (fun he => hne (congrArg Prod.fst he)) () n
  apply h
  unfold dueAt
  simp only [Pi.add_apply, Finset.sum_apply, h0, Finset.sum_const_zero, add_zero]

omit [FloatOps F] in
theorem cred_r3 (T : Fin 3 → CellTallies nD τ sig Unit) : (cred (∑ r, T r) : sProp 𝕄) ⊢ sepL r3 fun r => cred (T r) := by
  rw [← sepL3 fun r => (cred (T r) : sProp 𝕄)]; exact BIBase.Entails.of_eq (Pipeline.cred_finsetSum _ _)
omit [FloatOps F] in
theorem cred_r7 (T : Fin 7 → CellTallies nD τ sig Unit) : (cred (∑ r, T r) : sProp 𝕄) ⊢ sepL r7 fun r => cred (T r) := by
  rw [← sepL7 fun r => (cred (T r) : sProp 𝕄)]; exact BIBase.Entails.of_eq (Pipeline.cred_finsetSum _ _)

omit [FloatOps F] in
theorem creds (c : Dev nD) : (Pipeline.launchCred O₀ c : sProp 𝕄) ⊢ crdC c := by
  rw [Pipeline.launchCred_of_sum O₀ dueAt sum_due due_own c]
  unfold dueAt crdC crd
  rw [show (∑ r : Fin 3, tallyAt (cl c (.reg barS)) () 1 : CellTallies nD τ sig Unit) = tallyAt (cl c (.reg barS)) () 3 from by
      rw [Fin.sum_univ_three, tallyAt_add, tallyAt_add],
    show (∑ r : Fin 7, tallyAt (cl c (.reg rdyS)) () 1 : CellTallies nD τ sig Unit) = tallyAt (cl c (.reg rdyS)) () 7 from by
      rw [Fin.sum_univ_seven, tallyAt_add, tallyAt_add, tallyAt_add, tallyAt_add, tallyAt_add, tallyAt_add]]
  refine (cred_add _ _).1.trans ?_
  refine (sep_mono_left ((cred_add _ _).1.trans (sep_mono_left (cred_add _ _).1))).trans ?_
  iintro ⟨⟨⟨H1, H2⟩, H3⟩, H4⟩
  isplitl [H1 H2]
  · isplitl [H1]; · iexact H1
    iapply (cred_r3 (F := F) _); iexact H2
  isplitl [H3]; · iexact H3
  iapply (cred_r7 (F := F) _); iexact H4

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' memPre whl
  iintro ⟨Hm, Hlev, Hcr, -, ⟨%K, HR⟩, Ht, Hp⟩
  ihave Hc := (creds (F := F) c) $$ Hcr
  imodintro
  isplitl
  · isplitl [HR Hlev]
    · iexists K
      unfold records recs
      icases HR with ⟨H1, H2⟩
      isplitl [H1]; · iexact H1
      isplitl [H2] <;> iassumption
    isplitl [Ht]; · iexact Ht
    isplitl [Hp]; · iexact Hp
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr whl
  iintro ⟨Hs, -, Hr⟩
  isplitl [Hs] <;> iassumption

/-- What is read at the end. -/
def fin (c : Dev nD) : sProp 𝕄 := iprop(memPost m c ∗ unscopedSems0 c)

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest0_eq]
  unfold Φ₁ fin scr whl
  rw [← sems_eq c]
  iintro ⟨Hm, ⟨Ho, Hu⟩, Hr⟩
  isplitl [Hm Hu]
  · isplitl [Hm] <;> iassumption
  isplitl [Ho] <;> iassumption

theorem share_eq (c : Dev nD) (w : Fin cfg0.W) : (dats m ρ 0 c).share w = fullShare := w.elim0

theorem waits (c : Dev nD) : (levAts L lv : sProp 𝕄) ⊢ Pipeline.cellsWaits cfgs (dats m ρ) () 0 c :=
  Pipeline.cellsWaits_intro cfgs (dats m ρ) () 0 c fun w s t => w.elim0

/-- What holds of device `c` at the end. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outAt m c)
  ∧ ∀ sm : SemLoc sig, sm.isScoped .tc = false → s.sem ((c.tc : Thread nD τ), sm) = 0

omit [FloatOps F] in
theorem whl_read (c : Dev nD) (b : Ref sig .tc) (f : Buf (Elt F) ((c : Thread nD τ).loc b)) (s' : Phys nD τ sig (Elt F)) :
    iprop(whl c b f ∗ SI s') ⊢ (iprop(⌜s'.mem.mem ((c : Thread nD τ).loc b) = f⌝ ∗ SI s') : sProp 𝕄) := by
  unfold whl
  iintro ⟨H, HSI⟩
  icombine HSI H gives %h
  isplitr; · ipureintro; exact Buf.eq_of_forall_mem_univ h
  iexact HSI

theorem fin_read (c : Dev nD) (s' : Phys nD τ sig (Elt F)) :
    iprop(fin m c ∗ emp ∗ SI s') ⊢ (|={Set.univ}=> iprop(⌜QY m c s'.mem⌝ ∗ SI s') : sProp 𝕄) := by
  unfold fin memPost
  iintro ⟨⟨⟨H0, H1, H2⟩, Hu⟩, -, HSI⟩
  ihave H := (whl_read c main_arg0 _ s') $$ [H0 HSI]
  · isplitl [H0] <;> iassumption
  icases H with ⟨%h0, HSI⟩
  ihave H := (whl_read c main_arg1 _ s') $$ [H1 HSI]
  · isplitl [H1] <;> iassumption
  icases H with ⟨%h1, HSI⟩
  ihave H := (whl_read c main_v1 _ s') $$ [H2 HSI]
  · isplitl [H2] <;> iassumption
  icases H with ⟨%h2, HSI⟩
  ihave %h3 := (tcUnscoped_read c s') $$ [Hu HSI]
  · isplitl [Hu] <;> iassumption
  imodintro
  isplitr; · ipureintro; exact ⟨⟨h0, h1, h2⟩, h3⟩
  iexact HSI

/-! ## The run -/

/-- Each device's result is `outAt`, its arguments are as they were. -/
def QC : PUnit × MemSt nD τ sig (Elt F) → Prop := fun r => ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outAt m c

set_option maxRecDepth 8000 in
/-- From any memory with zero counters every weakly fair run of the mesh ends, with the results computed, the arguments kept
    and the counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m) (hY := fin_read m)
    (hQ := fun _ h hs => ⟨fun c => (h c).2.2.1, sem_eq_zero hs fun c => (h c).2.2.2⟩)

end Cert.TwoPhase

end
-- ==== Proof.A2aRef.lean ====
/- The reference on its one device: the product of the whole arrays, cut at zero, rounded. -/
module

public import proofs.«01_k».proof.Proof.Gen.ReferenceIdeal
public import Idealize.ShloMosaic.Lib.StableHlo.Run
public import Idealize.ShloMosaic.Lib.Quiescent
public import Idealize.ShloMosaic.Lib.StackMember
public import Idealize.ShloMosaic.Lib.IdealHost
public import Idealize.ShloMosaic.Lib.ValueIdx

@[expose] public section

noncomputable section

namespace Cert.TwoPhase.Ref

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- The zero the product is cut at, at every index. -/
abbrev zeros : FVec F S1024x1024 .f32 := broadcastInDim S1024x1024 ![] bcast_S_S1024x1024 (constant (F := F) S_ .f32 0x00000000#32)

/-- What the reference returns of its two arguments. -/
def want (x w : FVec F S1024x1024 .f32) : FVec F S1024x1024 .bf16 :=
  truncf .bf16 (maximumf (Host.dotGeneral dot_S1024x1024_S1024x1024_S1024x1024_1_0_0_1_n_n none x w) zeros) bitsLt_bf16_f32

abbrev steps : List (HloOp τ sig (Elt F)) :=
  [ binary main_arg0 main_arg1 main_v0 (fun l r => Host.dotGeneral (φ₁ := .f32) (φ₂ := .f32) dot_S1024x1024_S1024x1024_S1024x1024_1_0_0_1_n_n none l r),
    nullary main_cst (constant S_ .f32 0x00000000#32),
    unary main_cst main_v1 (broadcastInDim S1024x1024 ![] bcast_S_S1024x1024),
    binary main_v0 main_v1 main_v2 (maximumf (F := F) (φ := .f32)),
    unary main_v2 main_v3 (fun v => truncf (F := F) (φ := .f32) .bf16 v bitsLt_bf16_f32) ]

theorem res_eq (V : Valuation τ sig (Elt F)) :
    after steps V (main_v3 : DevRef τ sig) = want (V (main_arg0 : DevRef τ sig)) (V (main_arg1 : DevRef τ sig)) := by
  after_results
  rfl

theorem fst_eq (V : Valuation τ sig (Elt F)) : after steps V (main_arg0 : DevRef τ sig) = V (main_arg0 : DevRef τ sig) := by
  after_results

theorem snd_eq (V : Valuation τ sig (Elt F)) : after steps V (main_arg1 : DevRef τ sig) = V (main_arg1 : DevRef τ sig) := by
  after_results

/-- The whole run: the result, the two arguments kept, every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v3)
            = want (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run defs _ _).mono (fun r h => ?_)
    (run_seq (by decide) (by decide) defs main (fun _ => steps) (fun _ => rfl)
      (fun _ => ⟨binary_bufs_sub .., nullary_bufs_sub .., unary_bufs_sub .., binary_bufs_sub .., unary_bufs_sub ..⟩) m ρ)
  refine ⟨fun c => ⟨(h c main_v3).trans (res_eq _), (h c main_arg0).trans (fst_eq _), (h c main_arg1).trans (snd_eq _)⟩, ?_⟩
  exact sem_eq_zero_of_no_sems (sig := sig) (by decide) r.2

/-- The reference's result at an index, on extended reals. -/
theorem want_apply (x w : FVec Ideal S1024x1024 .f32) (r n : Fin 1024) :
    want x w (ix2 r n) = max (∑ k : Fin 1024, x (ix2 r k) * w (ix2 k n)) 0 := by
  have hz : (zeros (F := Ideal)) (ix2 r n) = 0 := Ideal.ofBits_zero_f32
  show max (Host.dotGeneral (DotDims.plain 1024 1024 1024) none x w (ix2 r n)) ((zeros (F := Ideal)) (ix2 r n)) = _
  rw [StackMember.dotGeneral_plain_apply, hz]

end Cert.TwoPhase.Ref

end
-- ==== Proof.A2aValue.lean ====
/- The result of the mesh on extended reals: device `c`'s rows of the whole product, cut at zero. -/
module

public import proofs.«01_k».proof.Proof.A2aLaunch
public import proofs.«01_k».proof.Proof.A2aRef
public import Idealize.ShloMosaic.Lib.Layout
public import Idealize.ShloMosaic.Lib.Pipeline.Value
public import Idealize.ShloMosaic.Lib.Pointwise.Reshape

@[expose] public section

noncomputable section

namespace Cert.TwoPhase

open Cert.KernelIdeal Cert.KernelIdeal.Gen
open Idealize.ShloMosaic Idealize.ShloMosaic.TcCoe
open Idealize.SL.Sem
open Idealize.ShloMosaic.ValueIdx (contrEquiv1 contrEquiv1_symm_val)

/-! ## The staged argument at an index -/

/-- What a device sends at (row block `z, q`, column `j`, row `i`): its argument there. -/
theorem pay1_apply (x : Vec Ideal S1024x32 .f32) (z : Fin 4) (q : Fin 8) (j i : Fin 32) (r : Fin 1024)
    (hr : r.val = 256 * z.val + 32 * q.val + i.val) : k0_pay1 x (ValueIdx.ix4 z q j i) = x (ValueIdx.ix2 r j) := by
  unfold k0_pay1
  rw [shapeCast_self]
  refine (transpose_apply _ _ _ _ (ValueIdx.ix4 j z q i) fun b => ?_).trans ?_
  · match b with | ⟨0, _⟩ => rfl | ⟨1, _⟩ => rfl | ⟨2, _⟩ => rfl | ⟨3, _⟩ => rfl
  refine (shapeCast_apply _ _ _ (ValueIdx.ix2 j r) ?_).trans ?_
  · refine (rowMajor_val2 _ 1024 rfl).trans ((rowMajor_val4 _ 1024 256 32 rfl rfl rfl).trans ?_).symm
    show j.val * 1024 + z.val * 256 + q.val * 32 + i.val = j.val * 1024 + r.val
    omega
  exact transpose_apply _ _ _ _ (ValueIdx.ix2 r j) fun b => by match b with | ⟨0, _⟩ => rfl | ⟨1, _⟩ => rfl

/-! ## The product of the received buffer -/

abbrev DL : DotDims S1024x32 S1024x1024 S32x1024 := dot_S1024x32_S1024x1024_S32x1024_0_0_1_1_n_n

/-- The kernel's product at an index, the received buffer read at the four coordinates of the contracted one. -/
theorem pay4_apply (v : Vec Ideal S4x8x32x32 .bf16) (w : Vec Ideal S1024x1024 .f32) (i : Fin 32) (n : Fin 1024)
    (f : Fin 1024 → EReal)
    (hf : ∀ (z : Fin 4) (q : Fin 8) (j : Fin 32) (k : Fin 1024), k.val = 256 * z.val + 32 * q.val + j.val → v (ValueIdx.ix4 z q j i) = f k) :
    k0_pay4 v w (ValueIdx.ix2 i n) = max (∑ k : Fin 1024, f k * w (ValueIdx.ix2 k n)) 0 := by
  unfold k0_pay4
  rw [shapeCast_self]
  have hz : (Scalar.ofBits .f32 0x00000000#32 : Ideal .f32) = 0 := Ideal.ofBits_zero_f32
  show max (FloatOps.matmul DL none (extf .f32 (shapeCast S1024x32 v shapeCasts_S4x8x32x32_S1024x32) bitsLt_bf16_f32 : FVec Ideal S1024x32 .f32) w
    (constant S32x1024 .f32 0x00000000#32) (ValueIdx.ix2 i n)) (Scalar.ofBits .f32 0x00000000#32) = _
  rw [hz, Ideal.matmul_apply, ← Equiv.sum_comp (contrEquiv1 DL 1024 rfl rfl).symm]
  congr 1
  rw [show (constant (F := Ideal) S32x1024 .f32 0x00000000#32) (ValueIdx.ix2 i n) = 0 from Ideal.ofBits_zero_f32, zero_add]
  refine Finset.sum_congr rfl fun k _ => ?_
  have hk := contrEquiv1_symm_val DL 1024 rfl rfl k
  have hl : DL.lhsIdx (ValueIdx.ix2 i n) ((contrEquiv1 DL 1024 rfl rfl).symm k) = ValueIdx.ix2 k i := by
    funext a
    apply Fin.ext
    match a with
    | ⟨0, _⟩ => exact hk
    | ⟨1, _⟩ => rfl
  have hr : DL.rhsIdx (ValueIdx.ix2 i n) ((contrEquiv1 DL 1024 rfl rfl).symm k) = ValueIdx.ix2 k n := by
    funext a
    apply Fin.ext
    match a with
    | ⟨0, _⟩ => exact hk
    | ⟨1, _⟩ => rfl
  rw [hl, hr]
  congr 1
  have hb := k.isLt
  have e : k.val = 256 * (k.val / 256) + 32 * (k.val / 32 % 8) + k.val % 32 := by omega
  rw [← hf ⟨k.val / 256, by omega⟩ ⟨k.val / 32 % 8, by omega⟩ ⟨k.val % 32, by omega⟩ k e]
  refine shapeCast_apply _ _ _ _ ?_
  refine (rowMajor_val4 _ 8192 1024 32 rfl rfl rfl).trans ((rowMajor_val2 _ 32 rfl).trans ?_).symm
  show k.val * 32 + i.val = k.val / 256 * 8192 + k.val / 32 % 8 * 1024 + k.val % 32 * 32 + i.val
  omega

/-! ## The mesh's result -/

variable (m : (ℓ : Loc nD τ sig) → Buf (Elt Ideal) ℓ)

/-- The received buffer of device `c`: its rows of the column block each device held. -/
theorem RB_apply (c : Dev nD) (z : Fin 4) (q : Fin 8) (j i : Fin 32) (r : Fin 1024) (hr : r.val = 32 * c.val + i.val) :
    RB m c (ValueIdx.ix4 z q j i) = (m (((mk z q : Dev nD) : Thread nD τ).loc main_arg0) : S1024x32.Idx → Ideal .f32) (ValueIdx.ix2 r j) := by
  have e : setA (setB (ValueIdx.ix4 z q j i) (qc c)) (zc c) = ValueIdx.ix4 (zc c) (qc c) j i := by
    funext a
    match a with | ⟨0, _⟩ => rfl | ⟨1, _⟩ => rfl | ⟨2, _⟩ => rfl | ⟨3, _⟩ => rfl
  show SB m (mk z (qc (mk (zc c) q))) (setA (setB (ValueIdx.ix4 z q j i) (qc c)) (zc (mk (zc c) q))) = _
  rw [qc_mk, zc_mk, e]
  refine pay1_apply _ _ _ _ _ _ ?_
  show r.val = 256 * (c.val / 8) + 32 * (c.val % 8) + i.val
  omega

/-- Device `c`'s result is its block of rows of the reference's. -/
theorem outAt_eq (X W : Cert.ReferenceIdeal.S1024x1024.Idx → Ideal .f32)
    (hX : ∀ c : Dev nD, m ((c : Thread nD τ).loc main_arg0) = Layout.block ⟨2, ![1024, 32]⟩ ⟨2, ![1024, 1024]⟩ 1 32 c X)
    (hW : ∀ c : Dev nD, m ((c : Thread nD τ).loc main_arg1) = W) (c : Dev nD) :
    outAt m c = Layout.block ⟨2, ![32, 1024]⟩ ⟨2, ![1024, 1024]⟩ 0 32 c (Ref.want X W) := by
  funext p
  obtain ⟨i, n, rfl⟩ : ∃ (i : Fin 32) (n : Fin 1024), p = ValueIdx.ix2 i n := ⟨p 0, p 1, ValueIdx.eq_ix2 p⟩
  have hc : c.val < 32 := c.isLt
  have hi := i.isLt
  let r : Fin 1024 := ⟨32 * c.val + i.val, by omega⟩
  have hout : outAt m c (ValueIdx.ix2 i n) = max (∑ k : Fin 1024, X (ValueIdx.ix2 r k) * W (ValueIdx.ix2 k n)) 0 := by
    unfold outAt
    rw [hW c]
    refine pay4_apply _ _ i n (fun k => X (ValueIdx.ix2 r k)) fun z q j k hk => ?_
    rw [RB_apply m c z q j i r rfl, hX]
    refine congrArg X ?_
    funext a
    apply Fin.ext
    match a with
    | ⟨0, _⟩ => rfl
    | ⟨1, _⟩ =>
      show (z.val * 8 + q.val) * 32 + j.val = k.val
      omega
  rw [hout]
  show _ = Ref.want X W _
  rw [← Ref.want_apply]
  refine congrArg (Ref.want X W) ?_
  funext a
  apply Fin.ext
  match a with
  | ⟨0, _⟩ =>
    show 32 * c.val + i.val = c.val * 32 + i.val
    omega
  | ⟨1, _⟩ => rfl

end Cert.TwoPhase

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.A2aValue
public import Idealize.ShloMosaic.Adequacy
public import Idealize.ShloMosaic.Init

@[expose] public section

noncomputable section

namespace Cert.Proof

open Idealize.ShloMosaic Idealize.SL.Sem

/-- The kernel on machine words: its program is the idealization's, letter for letter. -/
theorem frame_kernel : Cert.quiescent_Kernel := fun m g _ =>
  (θ_run Cert.KernelIdeal.defs _ _).mono (fun _ h => ⟨fun c => ⟨(h.1 c).1, (h.1 c).2.1⟩, h.2⟩) (Cert.TwoPhase.run_main (F := Bits) m g)

theorem frame_ideal : Cert.quiescent_KernelIdeal := fun m g _ =>
  (θ_run Cert.KernelIdeal.defs _ _).mono (fun _ h => ⟨fun c => ⟨(h.1 c).1, (h.1 c).2.1⟩, h.2⟩) (Cert.TwoPhase.run_main (F := Ideal) m g)

theorem frame_reference : Cert.quiescent_ReferenceIdeal := fun m g _ =>
  (θ_run Cert.ReferenceIdeal.defs _ _).mono (fun _ h => ⟨fun c => (h.1 c).2, h.2⟩) (Cert.TwoPhase.Ref.run (F := Ideal) m g)

/-- The mesh computes the reference's function of the whole arrays, a block of rows on each device. -/
theorem value : Cert.algebraic_KernelIdeal_ReferenceIdeal := by
  intro m g m' g' _ hin
  refine ⟨Cert.TwoPhase.Ref.want (F := Ideal) _ _, ?_, (θ_run Cert.ReferenceIdeal.defs _ _).mono (fun _ h => h.1 0) (Cert.TwoPhase.Ref.run (F := Ideal) m' g')⟩
  exact (θ_run Cert.KernelIdeal.defs _ _).mono
    (fun _ h c => ⟨((h.1 c).2.2).trans (Cert.TwoPhase.outAt_eq m _ _ (fun c => (hin c).1) (fun c => (hin c).2) c), (h.1 c).1, (h.1 c).2.1⟩)
    (Cert.TwoPhase.run_main (F := Ideal) m g)

theorem claim : Cert.Claim := ⟨Cert.Kernel.Gen.facts, Cert.KernelIdeal.Gen.facts, Cert.ReferenceIdeal.Gen.facts,
  frame_kernel, frame_ideal, frame_reference, trivial, value⟩

end Cert.Proof

end
